-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S3x256x2048 : Shape := ⟨3, ![3, 256, 2048]⟩
abbrev S3 : Shape := ⟨1, ![3]⟩
abbrev S_ : Shape := ⟨0, ![]⟩
abbrev S256x256 : Shape := ⟨2, ![256, 256]⟩
abbrev S256x4096 : Shape := ⟨2, ![256, 4096]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S256x8192, .f32⟩
  | .local _ .vmem, ⟨0, _⟩ => ⟨S4096x256, .bf16⟩
  | .local _ .vmem, ⟨1, _⟩ => ⟨S256x8192, .bf16⟩
  | .local _ .vmem, ⟨2, _⟩ => ⟨S256x8192, .f32⟩
  | .local _ .vmem, ⟨3, _⟩ => ⟨S3x256x2048, .bf16⟩
  | .local _ .vmem, ⟨4, _⟩ => ⟨S3x256x2048, .bf16⟩
  | .local _ .vmem, ⟨5, _⟩ => ⟨S3x256x2048, .bf16⟩
  | .local _ .vmem, ⟨6, _⟩ => ⟨S3x256x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 5 27 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_10 : BitVec 32 := 16#32
  let v13 : BitVec 32 := Scalar.addi v2 c16_i32_10
  let c1_i32_11 : BitVec 32 := 1#32
  let v14 : BitVec 32 := Scalar.subi v13 c1_i32_11
  let c16_i32_12 : BitVec 32 := 16#32
  let v15 : BitVec 32 := Scalar.remsi v14 c16_i32_12
  let c256_i32 : BitVec 32 := 256#32
  let v16 : BitVec 32 := Scalar.muli v15 c256_i32
  let v17 : Index := Scalar.indexCast v16
  let c0 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v24 : BitVec 32 := Scalar.addi v2 c1_i32_15
  let c16_i32_16 : BitVec 32 := 16#32
  let v25 : BitVec 32 := Scalar.remsi v24 c16_i32_16
  let c256_i32_17 : BitVec 32 := 256#32
  let v26 : BitVec 32 := Scalar.muli v25 c256_i32_17
  let v27 : Index := Scalar.indexCast v26
  let c0_18 : Index := 0#32
  ![v27.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_37 : BitVec 32 := 1#32
  let v50 : BitVec 32 := Scalar.muli v7 c1_i32_37
  let v51 : BitVec 32 := Scalar.addi c0_i32_38 v50
  v51.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_47 : BitVec 32 := 1#32
  let v60 : BitVec 32 := Scalar.muli v7 c1_i32_47
  let v61 : BitVec 32 := Scalar.addi c0_i32_48 v60
  v61.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_57 : BitVec 32 := 1#32
  let v70 : BitVec 32 := Scalar.muli v5 c1_i32_57
  let v71 : BitVec 32 := Scalar.addi c0_i32_58 v70
  v71.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_67 : BitVec 32 := 1#32
  let v80 : BitVec 32 := Scalar.muli v5 c1_i32_67
  let v81 : BitVec 32 := Scalar.addi c0_i32_68 v80
  v81.toNat
def k0_off3 (d0 : Dev nD) (c0_i32_74 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v90 : BitVec 32 := Scalar.addi v2 c32_i32
  let c2_i32_73 : BitVec 32 := 2#32
  let v91 : BitVec 32 := Scalar.subi v90 c2_i32_73
  let v92 : BitVec 32 := Scalar.subi v91 c0_i32_74
  let c16_i32_75 : BitVec 32 := 16#32
  let v93 : BitVec 32 := Scalar.remsi v92 c16_i32_75
  let c256_i32_76 : BitVec 32 := 256#32
  let v94 : BitVec 32 := Scalar.muli v93 c256_i32_76
  let v95 : Index := Scalar.indexCast v94
  let c0_77 : Index := 0#32
  ![v95.toNat, 0]
def k0_off4 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v101 : BitVec 32 := Scalar.addi v2 c2_i32_81
  let v102 : BitVec 32 := Scalar.addi v101 c0_i32_82
  let c16_i32_83 : BitVec 32 := 16#32
  let v103 : BitVec 32 := Scalar.remsi v102 c16_i32_83
  let c256_i32_84 : BitVec 32 := 256#32
  let v104 : BitVec 32 := Scalar.muli v103 c256_i32_84
  let v105 : Index := Scalar.indexCast v104
  let c0_85 : Index := 0#32
  ![v105.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_108 : BitVec 32 := 1#32
  let v131 : BitVec 32 := Scalar.muli v7 c1_i32_108
  let v132 : BitVec 32 := Scalar.addi c0_i32_109 v131
  v132.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_134 : BitVec 32 := 1#32
  let v157 : BitVec 32 := Scalar.muli v7 c1_i32_134
  let v158 : BitVec 32 := Scalar.addi c0_i32_135 v157
  v158.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_160 : BitVec 32 := 1#32
  let v183 : BitVec 32 := Scalar.muli v5 c1_i32_160
  let v184 : BitVec 32 := Scalar.addi c0_i32_161 v183
  v184.toNat
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_186 : BitVec 32 := 1#32
  let v209 : BitVec 32 := Scalar.muli v5 c1_i32_186
  let v210 : BitVec 32 := Scalar.addi c0_i32_187 v209
  v210.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_219 : BitVec 32 := 1#32
  let v250 : BitVec 32 := Scalar.muli v5 c1_i32_219
  let v251 : BitVec 32 := Scalar.addi c0_i32_220 v250
  v251.toNat
def k0_dev12 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_242 : BitVec 32 := 1#32
  let v268 : BitVec 32 := Scalar.muli v7 c1_i32_242
  let v269 : BitVec 32 := Scalar.addi c0_i32_243 v268
  v269.toNat
def k0_dev13 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_258 : BitVec 32 := 1#32
  let v284 : BitVec 32 := Scalar.muli v5 c1_i32_258
  let v285 : BitVec 32 := Scalar.addi c0_i32_259 v284
  v285.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_282 : BitVec 32 := 1#32
  let v302 : BitVec 32 := Scalar.muli v7 c1_i32_282
  let v303 : BitVec 32 := Scalar.addi c0_i32_283 v302
  v303.toNat
def k0_dev15 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_298 : BitVec 32 := 1#32
  let v318 : BitVec 32 := Scalar.muli v7 c1_i32_298
  let v319 : BitVec 32 := Scalar.addi c0_i32_299 v318
  v319.toNat
def k0_dev16 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_322 : BitVec 32 := 1#32
  let v336 : BitVec 32 := Scalar.muli v5 c1_i32_322
  let v337 : BitVec 32 := Scalar.addi c0_i32_323 v336
  v337.toNat
def k0_dev17 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_338 : BitVec 32 := 1#32
  let v352 : BitVec 32 := Scalar.muli v7 c1_i32_338
  let v353 : BitVec 32 := Scalar.addi c0_i32_339 v352
  v353.toNat
def k0_dev18 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_362 : BitVec 32 := 1#32
  let v370 : BitVec 32 := Scalar.muli v5 c1_i32_362
  let v371 : BitVec 32 := Scalar.addi c0_i32_363 v370
  v371.toNat
def k0_dev19 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_395 : BitVec 32 := 1#32
  let v411 : BitVec 32 := Scalar.muli v5 c1_i32_395
  let v412 : BitVec 32 := Scalar.addi c0_i32_396 v411
  v412.toNat
def k0_dev20 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_419 : BitVec 32 := 1#32
  let v429 : BitVec 32 := Scalar.muli v7 c1_i32_419
  let v430 : BitVec 32 := Scalar.addi c0_i32_420 v429
  v430.toNat
def k0_dev21 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_435 : BitVec 32 := 1#32
  let v445 : BitVec 32 := Scalar.muli v5 c1_i32_435
  let v446 : BitVec 32 := Scalar.addi c0_i32_436 v445
  v446.toNat
def k0_dev22 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_459 : BitVec 32 := 1#32
  let v463 : BitVec 32 := Scalar.muli v7 c1_i32_459
  let v464 : BitVec 32 := Scalar.addi c0_i32_460 v463
  v464.toNat
def k0_dev23 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_475 : BitVec 32 := 1#32
  let v479 : BitVec 32 := Scalar.muli v7 c1_i32_475
  let v480 : BitVec 32 := Scalar.addi c0_i32_476 v479
  v480.toNat
def k0_dev24 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_499 : BitVec 32 := 1#32
  let v497 : BitVec 32 := Scalar.muli v5 c1_i32_499
  let v498 : BitVec 32 := Scalar.addi c0_i32_500 v497
  v498.toNat
def k0_dev25 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_515 : BitVec 32 := 1#32
  let v513 : BitVec 32 := Scalar.muli v7 c1_i32_515
  let v514 : BitVec 32 := Scalar.addi c0_i32_516 v513
  v514.toNat
def k0_dev26 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_539 : BitVec 32 := 1#32
  let v531 : BitVec 32 := Scalar.muli v5 c1_i32_539
  let v532 : BitVec 32 := Scalar.addi c0_i32_540 v531
  v532.toNat
def k0_dev27 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_571 : BitVec 32 := 1#32
  let v572 : BitVec 32 := Scalar.muli v5 c1_i32_571
  let v573 : BitVec 32 := Scalar.addi c0_i32_572 v572
  v573.toNat
def k0_dev28 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_595 : BitVec 32 := 1#32
  let v590 : BitVec 32 := Scalar.muli v7 c1_i32_595
  let v591 : BitVec 32 := Scalar.addi c0_i32_596 v590
  v591.toNat
def k0_dev29 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_611 : BitVec 32 := 1#32
  let v606 : BitVec 32 := Scalar.muli v5 c1_i32_611
  let v607 : BitVec 32 := Scalar.addi c0_i32_612 v606
  v607.toNat
def k0_dev30 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_635 : BitVec 32 := 1#32
  let v624 : BitVec 32 := Scalar.muli v7 c1_i32_635
  let v625 : BitVec 32 := Scalar.addi c0_i32_636 v624
  v625.toNat
def k0_dev31 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_651 : BitVec 32 := 1#32
  let v640 : BitVec 32 := Scalar.muli v7 c1_i32_651
  let v641 : BitVec 32 := Scalar.addi c0_i32_652 v640
  v641.toNat
def k0_dev32 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_675 : BitVec 32 := 1#32
  let v658 : BitVec 32 := Scalar.muli v5 c1_i32_675
  let v659 : BitVec 32 := Scalar.addi c0_i32_676 v658
  v659.toNat
def k0_dev33 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_691 : BitVec 32 := 1#32
  let v674 : BitVec 32 := Scalar.muli v7 c1_i32_691
  let v675 : BitVec 32 := Scalar.addi c0_i32_692 v674
  v675.toNat
def k0_dev34 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_715 : BitVec 32 := 1#32
  let v692 : BitVec 32 := Scalar.muli v5 c1_i32_715
  let v693 : BitVec 32 := Scalar.addi c0_i32_716 v692
  v693.toNat
def k0_dev35 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_747 : BitVec 32 := 1#32
  let v733 : BitVec 32 := Scalar.muli v5 c1_i32_747
  let v734 : BitVec 32 := Scalar.addi c0_i32_748 v733
  v734.toNat
def k0_dev36 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_771 : BitVec 32 := 1#32
  let v751 : BitVec 32 := Scalar.muli v7 c1_i32_771
  let v752 : BitVec 32 := Scalar.addi c0_i32_772 v751
  v752.toNat
def k0_dev37 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_787 : BitVec 32 := 1#32
  let v767 : BitVec 32 := Scalar.muli v5 c1_i32_787
  let v768 : BitVec 32 := Scalar.addi c0_i32_788 v767
  v768.toNat
def k0_dev38 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_811 : BitVec 32 := 1#32
  let v785 : BitVec 32 := Scalar.muli v7 c1_i32_811
  let v786 : BitVec 32 := Scalar.addi c0_i32_812 v785
  v786.toNat
def k0_dev39 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_827 : BitVec 32 := 1#32
  let v801 : BitVec 32 := Scalar.muli v7 c1_i32_827
  let v802 : BitVec 32 := Scalar.addi c0_i32_828 v801
  v802.toNat
def k0_dev40 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_851 : BitVec 32 := 1#32
  let v819 : BitVec 32 := Scalar.muli v5 c1_i32_851
  let v820 : BitVec 32 := Scalar.addi c0_i32_852 v819
  v820.toNat
def k0_dev41 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_867 : BitVec 32 := 1#32
  let v835 : BitVec 32 := Scalar.muli v7 c1_i32_867
  let v836 : BitVec 32 := Scalar.addi c0_i32_868 v835
  v836.toNat
def k0_dev42 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_891 : BitVec 32 := 1#32
  let v853 : BitVec 32 := Scalar.muli v5 c1_i32_891
  let v854 : BitVec 32 := Scalar.addi c0_i32_892 v853
  v854.toNat
def k0_dev43 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_923 : BitVec 32 := 1#32
  let v894 : BitVec 32 := Scalar.muli v5 c1_i32_923
  let v895 : BitVec 32 := Scalar.addi c0_i32_924 v894
  v895.toNat
def k0_dev44 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_947 : BitVec 32 := 1#32
  let v912 : BitVec 32 := Scalar.muli v7 c1_i32_947
  let v913 : BitVec 32 := Scalar.addi c0_i32_948 v912
  v913.toNat
def k0_dev45 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_963 : BitVec 32 := 1#32
  let v928 : BitVec 32 := Scalar.muli v5 c1_i32_963
  let v929 : BitVec 32 := Scalar.addi c0_i32_964 v928
  v929.toNat
def k0_dev46 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_987 : BitVec 32 := 1#32
  let v946 : BitVec 32 := Scalar.muli v7 c1_i32_987
  let v947 : BitVec 32 := Scalar.addi c0_i32_988 v946
  v947.toNat
def k0_dev47 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1003 : BitVec 32 := 1#32
  let v962 : BitVec 32 := Scalar.muli v7 c1_i32_1003
  let v963 : BitVec 32 := Scalar.addi c0_i32_1004 v962
  v963.toNat
def k0_dev48 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1027 : BitVec 32 := 1#32
  let v980 : BitVec 32 := Scalar.muli v5 c1_i32_1027
  let v981 : BitVec 32 := Scalar.addi c0_i32_1028 v980
  v981.toNat
def k0_dev49 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1043 : BitVec 32 := 1#32
  let v996 : BitVec 32 := Scalar.muli v7 c1_i32_1043
  let v997 : BitVec 32 := Scalar.addi c0_i32_1044 v996
  v997.toNat
def k0_dev50 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1067 : BitVec 32 := 1#32
  let v1014 : BitVec 32 := Scalar.muli v5 c1_i32_1067
  let v1015 : BitVec 32 := Scalar.addi c0_i32_1068 v1014
  v1015.toNat
def k0_dev51 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1099 : BitVec 32 := 1#32
  let v1055 : BitVec 32 := Scalar.muli v5 c1_i32_1099
  let v1056 : BitVec 32 := Scalar.addi c0_i32_1100 v1055
  v1056.toNat
def k0_dev52 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1123 : BitVec 32 := 1#32
  let v1073 : BitVec 32 := Scalar.muli v7 c1_i32_1123
  let v1074 : BitVec 32 := Scalar.addi c0_i32_1124 v1073
  v1074.toNat
def k0_dev53 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1139 : BitVec 32 := 1#32
  let v1089 : BitVec 32 := Scalar.muli v5 c1_i32_1139
  let v1090 : BitVec 32 := Scalar.addi c0_i32_1140 v1089
  v1090.toNat
def k0_dev54 (d0 : Dev nD) : Nat :=
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1163 : BitVec 32 := 1#32
  let v1107 : BitVec 32 := Scalar.muli v7 c1_i32_1163
  let v1108 : BitVec 32 := Scalar.addi c0_i32_1164 v1107
  v1108.toNat
def k0_dev55 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1179 : BitVec 32 := 1#32
  let v1123 : BitVec 32 := Scalar.muli v7 c1_i32_1179
  let v1124 : BitVec 32 := Scalar.addi c0_i32_1180 v1123
  v1124.toNat
def k0_dev56 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1203 : BitVec 32 := 1#32
  let v1141 : BitVec 32 := Scalar.muli v5 c1_i32_1203
  let v1142 : BitVec 32 := Scalar.addi c0_i32_1204 v1141
  v1142.toNat
def k0_dev57 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1219 : BitVec 32 := 1#32
  let v1157 : BitVec 32 := Scalar.muli v7 c1_i32_1219
  let v1158 : BitVec 32 := Scalar.addi c0_i32_1220 v1157
  v1158.toNat
def k0_dev58 (d0 : Dev nD) : Nat :=
  let c0_i32_1244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1243 : BitVec 32 := 1#32
  let v1175 : BitVec 32 := Scalar.muli v5 c1_i32_1243
  let v1176 : BitVec 32 := Scalar.addi c0_i32_1244 v1175
  v1176.toNat
def k0_dev59 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1275 : BitVec 32 := 1#32
  let v1216 : BitVec 32 := Scalar.muli v5 c1_i32_1275
  let v1217 : BitVec 32 := Scalar.addi c0_i32_1276 v1216
  v1217.toNat
def k0_dev60 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1299 : BitVec 32 := 1#32
  let v1234 : BitVec 32 := Scalar.muli v7 c1_i32_1299
  let v1235 : BitVec 32 := Scalar.addi c0_i32_1300 v1234
  v1235.toNat
def k0_dev61 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1315 : BitVec 32 := 1#32
  let v1250 : BitVec 32 := Scalar.muli v5 c1_i32_1315
  let v1251 : BitVec 32 := Scalar.addi c0_i32_1316 v1250
  v1251.toNat
def k0_dev62 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1339 : BitVec 32 := 1#32
  let v1268 : BitVec 32 := Scalar.muli v7 c1_i32_1339
  let v1269 : BitVec 32 := Scalar.addi c0_i32_1340 v1268
  v1269.toNat
def k0_dev63 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1355 : BitVec 32 := 1#32
  let v1284 : BitVec 32 := Scalar.muli v7 c1_i32_1355
  let v1285 : BitVec 32 := Scalar.addi c0_i32_1356 v1284
  v1285.toNat
def k0_dev64 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1379 : BitVec 32 := 1#32
  let v1302 : BitVec 32 := Scalar.muli v5 c1_i32_1379
  let v1303 : BitVec 32 := Scalar.addi c0_i32_1380 v1302
  v1303.toNat
def k0_dev65 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1395 : BitVec 32 := 1#32
  let v1318 : BitVec 32 := Scalar.muli v7 c1_i32_1395
  let v1319 : BitVec 32 := Scalar.addi c0_i32_1396 v1318
  v1319.toNat
def k0_dev66 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1419 : BitVec 32 := 1#32
  let v1336 : BitVec 32 := Scalar.muli v5 c1_i32_1419
  let v1337 : BitVec 32 := Scalar.addi c0_i32_1420 v1336
  v1337.toNat
def k0_dev67 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1451 : BitVec 32 := 1#32
  let v1377 : BitVec 32 := Scalar.muli v5 c1_i32_1451
  let v1378 : BitVec 32 := Scalar.addi c0_i32_1452 v1377
  v1378.toNat
def k0_dev68 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1475 : BitVec 32 := 1#32
  let v1395 : BitVec 32 := Scalar.muli v7 c1_i32_1475
  let v1396 : BitVec 32 := Scalar.addi c0_i32_1476 v1395
  v1396.toNat
def k0_dev69 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1491 : BitVec 32 := 1#32
  let v1411 : BitVec 32 := Scalar.muli v5 c1_i32_1491
  let v1412 : BitVec 32 := Scalar.addi c0_i32_1492 v1411
  v1412.toNat
def k0_dev70 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1515 : BitVec 32 := 1#32
  let v1429 : BitVec 32 := Scalar.muli v7 c1_i32_1515
  let v1430 : BitVec 32 := Scalar.addi c0_i32_1516 v1429
  v1430.toNat
def k0_dev71 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1531 : BitVec 32 := 1#32
  let v1445 : BitVec 32 := Scalar.muli v7 c1_i32_1531
  let v1446 : BitVec 32 := Scalar.addi c0_i32_1532 v1445
  v1446.toNat
def k0_dev72 (d0 : Dev nD) : Nat :=
  let c0_i32_1556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1555 : BitVec 32 := 1#32
  let v1463 : BitVec 32 := Scalar.muli v5 c1_i32_1555
  let v1464 : BitVec 32 := Scalar.addi c0_i32_1556 v1463
  v1464.toNat
def k0_dev73 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1571 : BitVec 32 := 1#32
  let v1479 : BitVec 32 := Scalar.muli v7 c1_i32_1571
  let v1480 : BitVec 32 := Scalar.addi c0_i32_1572 v1479
  v1480.toNat
def k0_dev74 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1595 : BitVec 32 := 1#32
  let v1497 : BitVec 32 := Scalar.muli v5 c1_i32_1595
  let v1498 : BitVec 32 := Scalar.addi c0_i32_1596 v1497
  v1498.toNat
def k0_dev75 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1627 : BitVec 32 := 1#32
  let v1538 : BitVec 32 := Scalar.muli v5 c1_i32_1627
  let v1539 : BitVec 32 := Scalar.addi c0_i32_1628 v1538
  v1539.toNat
def k0_dev76 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1651 : BitVec 32 := 1#32
  let v1556 : BitVec 32 := Scalar.muli v7 c1_i32_1651
  let v1557 : BitVec 32 := Scalar.addi c0_i32_1652 v1556
  v1557.toNat
def k0_dev77 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1667 : BitVec 32 := 1#32
  let v1572 : BitVec 32 := Scalar.muli v5 c1_i32_1667
  let v1573 : BitVec 32 := Scalar.addi c0_i32_1668 v1572
  v1573.toNat
def k0_dev78 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1691 : BitVec 32 := 1#32
  let v1590 : BitVec 32 := Scalar.muli v7 c1_i32_1691
  let v1591 : BitVec 32 := Scalar.addi c0_i32_1692 v1590
  v1591.toNat
def k0_dev79 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1707 : BitVec 32 := 1#32
  let v1606 : BitVec 32 := Scalar.muli v7 c1_i32_1707
  let v1607 : BitVec 32 := Scalar.addi c0_i32_1708 v1606
  v1607.toNat
def k0_dev80 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1731 : BitVec 32 := 1#32
  let v1624 : BitVec 32 := Scalar.muli v5 c1_i32_1731
  let v1625 : BitVec 32 := Scalar.addi c0_i32_1732 v1624
  v1625.toNat
def k0_dev81 (d0 : Dev nD) : Nat :=
  let c0_i32_1748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1747 : BitVec 32 := 1#32
  let v1640 : BitVec 32 := Scalar.muli v7 c1_i32_1747
  let v1641 : BitVec 32 := Scalar.addi c0_i32_1748 v1640
  v1641.toNat
def k0_dev82 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1771 : BitVec 32 := 1#32
  let v1658 : BitVec 32 := Scalar.muli v5 c1_i32_1771
  let v1659 : BitVec 32 := Scalar.addi c0_i32_1772 v1658
  v1659.toNat
def k0_dev83 (d0 : Dev nD) : Nat :=
  let c0_i32_1804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1803 : BitVec 32 := 1#32
  let v1699 : BitVec 32 := Scalar.muli v5 c1_i32_1803
  let v1700 : BitVec 32 := Scalar.addi c0_i32_1804 v1699
  v1700.toNat
def k0_dev84 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1827 : BitVec 32 := 1#32
  let v1717 : BitVec 32 := Scalar.muli v7 c1_i32_1827
  let v1718 : BitVec 32 := Scalar.addi c0_i32_1828 v1717
  v1718.toNat
def k0_dev85 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1843 : BitVec 32 := 1#32
  let v1733 : BitVec 32 := Scalar.muli v5 c1_i32_1843
  let v1734 : BitVec 32 := Scalar.addi c0_i32_1844 v1733
  v1734.toNat
def k0_dev86 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1867 : BitVec 32 := 1#32
  let v1751 : BitVec 32 := Scalar.muli v7 c1_i32_1867
  let v1752 : BitVec 32 := Scalar.addi c0_i32_1868 v1751
  v1752.toNat
def k0_dev87 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1883 : BitVec 32 := 1#32
  let v1767 : BitVec 32 := Scalar.muli v7 c1_i32_1883
  let v1768 : BitVec 32 := Scalar.addi c0_i32_1884 v1767
  v1768.toNat
def k0_dev88 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1907 : BitVec 32 := 1#32
  let v1785 : BitVec 32 := Scalar.muli v5 c1_i32_1907
  let v1786 : BitVec 32 := Scalar.addi c0_i32_1908 v1785
  v1786.toNat
def k0_dev89 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1923 : BitVec 32 := 1#32
  let v1801 : BitVec 32 := Scalar.muli v7 c1_i32_1923
  let v1802 : BitVec 32 := Scalar.addi c0_i32_1924 v1801
  v1802.toNat
def k0_dev90 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1947 : BitVec 32 := 1#32
  let v1819 : BitVec 32 := Scalar.muli v5 c1_i32_1947
  let v1820 : BitVec 32 := Scalar.addi c0_i32_1948 v1819
  v1820.toNat
def k0_dev91 (d0 : Dev nD) : Nat :=
  let c0_i32_1980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1979 : BitVec 32 := 1#32
  let v1860 : BitVec 32 := Scalar.muli v5 c1_i32_1979
  let v1861 : BitVec 32 := Scalar.addi c0_i32_1980 v1860
  v1861.toNat
def k0_dev92 (d0 : Dev nD) : Nat :=
  let c0_i32_2004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2003 : BitVec 32 := 1#32
  let v1878 : BitVec 32 := Scalar.muli v7 c1_i32_2003
  let v1879 : BitVec 32 := Scalar.addi c0_i32_2004 v1878
  v1879.toNat
def k0_dev93 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2019 : BitVec 32 := 1#32
  let v1894 : BitVec 32 := Scalar.muli v5 c1_i32_2019
  let v1895 : BitVec 32 := Scalar.addi c0_i32_2020 v1894
  v1895.toNat
def k0_dev94 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2043 : BitVec 32 := 1#32
  let v1912 : BitVec 32 := Scalar.muli v7 c1_i32_2043
  let v1913 : BitVec 32 := Scalar.addi c0_i32_2044 v1912
  v1913.toNat
def k0_dev95 (d0 : Dev nD) : Nat :=
  let c0_i32_2060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2059 : BitVec 32 := 1#32
  let v1928 : BitVec 32 := Scalar.muli v7 c1_i32_2059
  let v1929 : BitVec 32 := Scalar.addi c0_i32_2060 v1928
  v1929.toNat
def k0_dev96 (d0 : Dev nD) : Nat :=
  let c0_i32_2084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2083 : BitVec 32 := 1#32
  let v1946 : BitVec 32 := Scalar.muli v5 c1_i32_2083
  let v1947 : BitVec 32 := Scalar.addi c0_i32_2084 v1946
  v1947.toNat
def k0_dev97 (d0 : Dev nD) : Nat :=
  let c0_i32_2100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2099 : BitVec 32 := 1#32
  let v1962 : BitVec 32 := Scalar.muli v7 c1_i32_2099
  let v1963 : BitVec 32 := Scalar.addi c0_i32_2100 v1962
  v1963.toNat
def k0_dev98 (d0 : Dev nD) : Nat :=
  let c0_i32_2124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2123 : BitVec 32 := 1#32
  let v1980 : BitVec 32 := Scalar.muli v5 c1_i32_2123
  let v1981 : BitVec 32 := Scalar.addi c0_i32_2124 v1980
  v1981.toNat
def k0_dev99 (d0 : Dev nD) : Nat :=
  let c0_i32_2156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2155 : BitVec 32 := 1#32
  let v2021 : BitVec 32 := Scalar.muli v5 c1_i32_2155
  let v2022 : BitVec 32 := Scalar.addi c0_i32_2156 v2021
  v2022.toNat
def k0_dev100 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2179 : BitVec 32 := 1#32
  let v2039 : BitVec 32 := Scalar.muli v7 c1_i32_2179
  let v2040 : BitVec 32 := Scalar.addi c0_i32_2180 v2039
  v2040.toNat
def k0_dev101 (d0 : Dev nD) : Nat :=
  let c0_i32_2196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2195 : BitVec 32 := 1#32
  let v2055 : BitVec 32 := Scalar.muli v5 c1_i32_2195
  let v2056 : BitVec 32 := Scalar.addi c0_i32_2196 v2055
  v2056.toNat
def k0_dev102 (d0 : Dev nD) : Nat :=
  let c0_i32_2220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2219 : BitVec 32 := 1#32
  let v2073 : BitVec 32 := Scalar.muli v7 c1_i32_2219
  let v2074 : BitVec 32 := Scalar.addi c0_i32_2220 v2073
  v2074.toNat
def k0_dev103 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2235 : BitVec 32 := 1#32
  let v2089 : BitVec 32 := Scalar.muli v7 c1_i32_2235
  let v2090 : BitVec 32 := Scalar.addi c0_i32_2236 v2089
  v2090.toNat
def k0_dev104 (d0 : Dev nD) : Nat :=
  let c0_i32_2260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2259 : BitVec 32 := 1#32
  let v2107 : BitVec 32 := Scalar.muli v5 c1_i32_2259
  let v2108 : BitVec 32 := Scalar.addi c0_i32_2260 v2107
  v2108.toNat
def k0_dev105 (d0 : Dev nD) : Nat :=
  let c0_i32_2276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2275 : BitVec 32 := 1#32
  let v2123 : BitVec 32 := Scalar.muli v7 c1_i32_2275
  let v2124 : BitVec 32 := Scalar.addi c0_i32_2276 v2123
  v2124.toNat
def k0_dev106 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2299 : BitVec 32 := 1#32
  let v2141 : BitVec 32 := Scalar.muli v5 c1_i32_2299
  let v2142 : BitVec 32 := Scalar.addi c0_i32_2300 v2141
  v2142.toNat
def k0_dev107 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2331 : BitVec 32 := 1#32
  let v2182 : BitVec 32 := Scalar.muli v5 c1_i32_2331
  let v2183 : BitVec 32 := Scalar.addi c0_i32_2332 v2182
  v2183.toNat
def k0_dev108 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2355 : BitVec 32 := 1#32
  let v2200 : BitVec 32 := Scalar.muli v7 c1_i32_2355
  let v2201 : BitVec 32 := Scalar.addi c0_i32_2356 v2200
  v2201.toNat
def k0_dev109 (d0 : Dev nD) : Nat :=
  let c0_i32_2372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2371 : BitVec 32 := 1#32
  let v2216 : BitVec 32 := Scalar.muli v5 c1_i32_2371
  let v2217 : BitVec 32 := Scalar.addi c0_i32_2372 v2216
  v2217.toNat
def k0_dev110 (d0 : Dev nD) : Nat :=
  let c0_i32_2396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2395 : BitVec 32 := 1#32
  let v2234 : BitVec 32 := Scalar.muli v7 c1_i32_2395
  let v2235 : BitVec 32 := Scalar.addi c0_i32_2396 v2234
  v2235.toNat
def k0_dev111 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2411 : BitVec 32 := 1#32
  let v2250 : BitVec 32 := Scalar.muli v7 c1_i32_2411
  let v2251 : BitVec 32 := Scalar.addi c0_i32_2412 v2250
  v2251.toNat
def k0_dev112 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2435 : BitVec 32 := 1#32
  let v2268 : BitVec 32 := Scalar.muli v5 c1_i32_2435
  let v2269 : BitVec 32 := Scalar.addi c0_i32_2436 v2268
  v2269.toNat
def k0_dev113 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2451 : BitVec 32 := 1#32
  let v2284 : BitVec 32 := Scalar.muli v7 c1_i32_2451
  let v2285 : BitVec 32 := Scalar.addi c0_i32_2452 v2284
  v2285.toNat
def k0_dev114 (d0 : Dev nD) : Nat :=
  let c0_i32_2476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2475 : BitVec 32 := 1#32
  let v2302 : BitVec 32 := Scalar.muli v5 c1_i32_2475
  let v2303 : BitVec 32 := Scalar.addi c0_i32_2476 v2302
  v2303.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Steps.lean ====
/-
  The kernel's body, written as a short program over its repeating step. The kernel walks four rings of devices; on every
  ring it does the same fifteen steps with a different slot of a three-slot buffer and a different neighbour. `body` below
  is the same sequence of operations as the printed kernel, with the ring and the step as parameters, in continuation
  style; `body_eq` says it IS the printed body.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

/-! ## The rings -/

/-- The slot buffer of ring `i`: three slots of one block each. -/
def comm : Fin 4 → Memref sig .tc .vmem S3x256x2048 .bf16
  | 0 => Memref.whole cc0_scratch0
  | 1 => Memref.whole cc0_scratch1
  | 2 => Memref.whole cc0_scratch2
  | 3 => Memref.whole cc0_scratch3

theorem comm_isWhole : ∀ i, (comm i).IsWhole
  | 0 => Memref.isWhole_whole _
  | 1 => Memref.isWhole_whole _
  | 2 => Memref.isWhole_whole _
  | 3 => Memref.isWhole_whole _

/-- The send semaphores of ring `i`, one per slot, -/
def sendSems : Fin 4 → DmaSems sig S3
  | 0 => cc0_scratch4
  | 1 => cc0_scratch5
  | 2 => cc0_scratch6
  | 3 => cc0_scratch7

/-- its receive semaphores, -/
def recvSems : Fin 4 → DmaSems sig S3
  | 0 => cc0_scratch8
  | 1 => cc0_scratch9
  | 2 => cc0_scratch10
  | 3 => cc0_scratch11

/-- and its credit semaphore. -/
def credSem : Fin 4 → Sems sig S_
  | 0 => cc0_scratch12
  | 1 => cc0_scratch13
  | 2 => cc0_scratch14
  | 3 => cc0_scratch15

/-- The neighbour one below, as the kernel computes it, -/
def leftDev (d : Dev nD) : Dev nD := ⟨k0_dev1 d, k0_dev1_lt d⟩

/-- and the one above. -/
def rightDev (d : Dev nD) : Dev nD := ⟨k0_dev2 d, k0_dev2_lt d⟩

/-- Where ring `i` sends: rings 0 and 1 to the right, rings 2 and 3 to the left. -/
def dnDev (d : Dev nD) : Fin 4 → Dev nD
  | 0 => rightDev d
  | 1 => rightDev d
  | 2 => leftDev d
  | 3 => leftDev d

/-- Where ring `i` receives from. -/
def upDev (d : Dev nD) : Fin 4 → Dev nD
  | 0 => leftDev d
  | 1 => leftDev d
  | 2 => rightDev d
  | 3 => rightDev d

/-- The slot number `n` names. -/
def sl (n : ℕ) : Fin 3 := ⟨n % 3, Nat.mod_lt _ (by decide)⟩

theorem slot_inb : ∀ s : Fin 3, ∀ a, (![s.val, 0, 0] : Fin 3 → Nat) a + S1x256x2048.size a ≤ S3x256x2048.size a := by decide

/-- Slot `s` of a slot buffer, as a rectangle. -/
def slotRect (s : Fin 3) : Rect S3x256x2048 :=
  Rect.unit (s := S3x256x2048) ![s.val, 0, 0] S1x256x2048.size (slot_inb s)

theorem slot_words : ∀ s : Fin 3, (slotRect s).WholeWords (EltTy.packing .bf16) := by decide

theorem slot_packed : ∀ s : Fin 3, (slotRect s).PackedRows (EltTy.packing .bf16) := by decide

/-- Slot `s` of ring `i`'s buffer, as the transfers address it. -/
def slotM (i : Fin 4) (s : Fin 3) : Memref sig .tc .vmem S256x2048 .bf16 :=
  ((comm i).slice (slotRect s) (fun _ => rfl)).squeeze S256x2048 squeezes_S1x256x2048_S256x2048

theorem slotM_words (i : Fin 4) (s : Fin 3) : (slotM i s).view.WordExact :=
  ((comm_isWhole i).wordExact_slice rfl _ (slot_words s)).reshape _ _

theorem sem_inb : ∀ s : Fin 3, ∀ a, (![s.val] : Fin 1 → Nat) a + S1.size a ≤ S3.size a := by decide

/-- Semaphore `s` of an array of three. -/
def semAt (a : DmaSems sig S3) (s : Fin 3) : DmaSem sig :=
  ((a.slice (Rect.unit (s := S3) ![s.val] S1.size (sem_inb s))).squeeze S_ squeezes_S1_S_).sem

theorem half_inb : ∀ j : Fin 2, ∀ a, (![0, j.val * 4096] : Fin 2 → Nat) a + S256x4096.size a ≤ S256x8192.size a := by decide

theorem cols_inb : ∀ i : Fin 4, ∀ a, (![0, i.val * 2048] : Fin 2 → Nat) a + S256x2048.size a ≤ S256x8192.size a := by decide

theorem quarter_slices : ∀ j : Fin 2, S256x4096.Slices ![0, j.val * 2048] S256x2048 := by decide

/-! ## The values -/

/-- One partial product: a block of `x` against half the columns of `w`. -/
def dotOf (x : Vec F S256x256 .bf16) (w : Vec F S256x4096 .bf16) : FVec F S256x4096 .f32 :=
  matmul dot_S256x256_S256x4096_S256x4096_1_0_0_1_n_n none (shapeCast S256x256 x shapeCasts_S256x256_S256x256)
    (shapeCast S256x4096 w shapeCasts_S256x4096_S256x4096) (constant S256x4096 .f32 0x00000000#32)

/-- Half the columns of a partial product. -/
def halfOf {e : EltTy} (j : Fin 2) (v : S256x4096.Idx → Elt F e) : S256x2048.Idx → Elt F e :=
  extractStridedSlice S256x2048 ![0, j.val * 2048] v (quarter_slices j)

/-- A received block plus this device's own partial product. -/
def accOf (b : Vec F S1x256x2048 .bf16) (p : FVec F S256x2048 .f32) : FVec F S256x2048 .f32 :=
  addf (extf .f32 (shapeCast S256x2048 b shapeCasts_S1x256x2048_S256x2048) bitsLt_bf16_f32) p

/-- What the kernel stores back into a slot: the sum, rounded. -/
def packOf (v : FVec F S256x2048 .bf16) : FVec F S1x256x2048 .bf16 :=
  shapeCast S1x256x2048 v shapeCasts_S256x2048_S1x256x2048

/-- The activation the kernel applies to the finished sum. -/
def geluOf (y : FVec F S256x2048 .f32) : FVec F S256x2048 .f32 :=
  mulf (mulf (broadcast S256x2048 (Scalar.ofBits .f32 0x3F000000#32 : F .f32)) y)
    (addf (broadcast S256x2048 (Scalar.ofBits .f32 0x3F800000#32 : F .f32))
      (tanh (mulf (broadcast S256x2048 (Scalar.ofBits .f32 0x3F4C422A#32 : F .f32))
        (addf y (mulf (mulf (mulf (broadcast S256x2048 (Scalar.ofBits .f32 0x3D372713#32 : F .f32)) y) y) y)))))

/-! ## The operations -/

/-- A program of the kernel's core. -/
abbrev P (F : FTy → Type) [FloatOps F] : Type 1 := Prog (TpuEff nD τ sig (Elt F) Λ₀ .tc) PUnit

/-- Load a block of `x`. -/
def loadX (off : Fin 2 → Nat) (h : ∀ a, off a + S256x256.size a ≤ S4096x256.size a) (k : Vec F S256x256 .bf16 → P F) : P F :=
  Prog.op (.load (Memref.whole cc0_stg0_0) (Rect.unit (s := S4096x256) off S256x256.size h).toLoadRect
    (View.loadsAt_vmem h_S256x256)) k

/-- Load half the columns of `w`. -/
def loadW (j : Fin 2) (k : Vec F S256x4096 .bf16 → P F) : P F :=
  Prog.op (.load (Memref.whole cc0_stg1_0) (Rect.unit (s := S256x8192) ![0, j.val * 4096] S256x4096.size (half_inb j)).toLoadRect
    (View.loadsAt_vmem h_S256x4096)) k

/-- Load slot `s` of ring `i`. -/
def loadS (i : Fin 4) (s : Fin 3) (k : Vec F S1x256x2048 .bf16 → P F) : P F :=
  Prog.op (.load (comm i) (slotRect s).toLoadRect (View.loadsAt_vmem h_S1x256x2048)) k

/-- Store into slot `s` of ring `i`. -/
def storeS (i : Fin 4) (s : Fin 3) (w : FVec F S1x256x2048 .bf16) (k : P F) : P F :=
  Prog.op (.store (comm i) (slotRect s) w Finset.univ
    (View.stores_vmem h_S1x256x2048 ((comm_isWhole i).storeExact_slice rfl _ (slot_packed s)) (fun _ => rfl)) (.inl rfl)) fun _ => k

/-- Load and then overwrite the columns of the result that ring `i` computes. -/
def storeO (i : Fin 4) (w : FVec F S256x2048 .f32) (k : P F) : P F :=
  Prog.op (.load (Memref.whole cc0_stg2_0) (Rect.unit (s := S256x8192) ![0, i.val * 2048] S256x2048.size (cols_inb i)).toLoadRect
    (View.loadsAt_vmem h_S256x2048)) fun _ =>
  Prog.op (.store (Memref.whole cc0_stg2_0) (Rect.unit (s := S256x8192) ![0, i.val * 2048] S256x2048.size (cols_inb i)) w Finset.univ
    (View.stores_vmem_bits_univ h_S256x2048 rfl) (.inl rfl)) fun _ => k

/-- Send slot `s` of ring `i` into the next slot of the neighbour below. -/
def sendS (d : Dev nD) (i : Fin 4) (s s' : Fin 3) (k : P F) : P F :=
  Prog.op (.enqueueDma (slotM i s) (.remote (Dev.tc (dnDev d i)) (slotM i s') (.dma (semAt (sendSems i) s)))
    (.dma (semAt (recvSems i) s')) (slotM_words i s) (slotM_words i s') ⟨⟨rfl, Or.inl rfl⟩, trivial⟩) fun _ => k

/-- Wait for a transfer's credit on semaphore `s` of an array. -/
def waitS (i : Fin 4) (a : DmaSems sig S3) (s s' : Fin 3) (k : P F) : P F :=
  Prog.op (.waitDma2 (semAt a s) (slotM i s') (slotM i s) (slotM_words i s') (slotM_words i s)) fun _ => k

/-- Signal one unit to a neighbour. -/
def signalS (d : Dev nD) (sem : Sem sig) (k : P F) : P F :=
  Prog.op (.semSignal (d, .tc) sem (1#32 : BitVec 32).toInt) fun _ => k

/-- Wait for units on an own semaphore. -/
def waitR (sem : Sem sig) (n : BitVec 32) (k : P F) : P F :=
  Prog.op (.semWait sem n.toInt) fun _ => k

/-! ## The steps -/

/-- The two blocks of `x` this device multiplies at step `h`, and their offsets' bounds. -/
def stepOff (d : Dev nD) (h : ℕ) : Fin 2 → Fin 2 → Nat
  | 0 => k0_off3 d (BitVec.ofNat 32 (h % 15))
  | 1 => k0_off4 d (BitVec.ofNat 32 (h % 15))

theorem stepOff_inb (d : Dev nD) (h : ℕ) : ∀ j : Fin 2, ∀ a, stepOff d h j a + S256x256.size a ≤ S4096x256.size a
  | 0 => k0_off3_inb d ⟨h % 15, Nat.mod_lt _ (by decide)⟩
  | 1 => k0_off4_inb d ⟨h % 15, Nat.mod_lt _ (by decide)⟩

def firstOff (d : Dev nD) : Fin 2 → Fin 2 → Nat
  | 0 => k0_off1 d
  | 1 => k0_off2 d

theorem firstOff_inb (d : Dev nD) : ∀ j : Fin 2, ∀ a, firstOff d j a + S256x256.size a ≤ S4096x256.size a
  | 0 => k0_off1_inb d
  | 1 => k0_off2_inb d

/-- Both partial products from the blocks at `off`. -/
def products (off : Fin 2 → Fin 2 → Nat) (h : ∀ j a, off j a + S256x256.size a ≤ S4096x256.size a)
    (k : FVec F S256x4096 .f32 → FVec F S256x4096 .f32 → P F) : P F :=
  loadX (off 0) (h 0) fun x₀ => loadW 0 fun w₀ => loadX (off 1) (h 1) fun x₁ => loadW 1 fun w₁ =>
    k (dotOf x₀ w₀) (dotOf x₁ w₁)

/-- What ring `i` gets of the two partial products. -/
def ringPart {e : EltTy} (a b : S256x4096.Idx → Elt F e) : Fin 4 → S256x2048.Idx → Elt F e
  | 0 => halfOf 0 a
  | 1 => halfOf 1 a
  | 2 => halfOf 0 b
  | 3 => halfOf 1 b

/-- Fill slot 0 of ring `i`. -/
def fill (a b : FVec F S256x4096 .f32) (i : Fin 4) (k : P F) : P F :=
  loadS i 0 fun _ => storeS i 0 (packOf (ringPart (e := .bf16) (truncf .bf16 a bitsLt_bf16_f32) (truncf .bf16 b bitsLt_bf16_f32) i)) k

/-- Receive at step `h`, add the own part, and store the sum back in the slot. -/
def recvAdd (h : ℕ) (i : Fin 4) (p : FVec F S256x2048 .f32) (k : P F) : P F :=
  waitS i (recvSems i) (sl (h + 1)) (sl (h + 2)) <| loadS i (sl (h + 1)) fun b => loadS i (sl (h + 1)) fun _ =>
    storeS i (sl (h + 1)) (packOf (truncf .bf16 (accOf b p) bitsLt_bf16_f32)) k

/-- Step 0 on ring `i`. -/
def ringFirst (d : Dev nD) (a b : FVec F S256x4096 .f32) (i : Fin 4) (k : P F) : P F :=
  recvAdd 0 i (ringPart (e := .f32) a b i) <| sendS d i (sl 1) (sl 2) k

/-- Step `h` on ring `i`, `1 ≤ h ≤ 13`: the previous send is done, its slot is handed up; receive, add, wait for the
    neighbour below to hand up its slot, send. -/
def ringMid (d : Dev nD) (h : ℕ) (a b : FVec F S256x4096 .f32) (i : Fin 4) (k : P F) : P F :=
  waitS i (sendSems i) (sl (h + 2)) (sl h) <| signalS (upDev d i) (credSem i).sem <|
    recvAdd h i (ringPart (e := .f32) a b i) <| waitR (credSem i).sem 1#32 <| sendS d i (sl (h + 1)) (sl (h + 2)) k

/-- The last step on ring `i`. -/
def ringLast (a b : FVec F S256x4096 .f32) (i : Fin 4) (k : P F) : P F :=
  waitS i (sendSems i) (sl 1) (sl 2) <| waitS i (recvSems i) (sl 0) (sl 1) <|
    loadS i (sl 0) fun v => storeO i (geluOf (accOf v (ringPart (e := .f32) a b i))) k

/-- The four rings in turn. -/
def rings (f : Fin 4 → P F → P F) (k : P F) : P F := f 0 <| f 1 <| f 2 <| f 3 k

/-- Step `h`, `1 ≤ h ≤ 13`. -/
def stepMid (d : Dev nD) (h : ℕ) (k : P F) : P F :=
  products (stepOff d h) (stepOff_inb d h) fun a b => rings (ringMid d h a b) k

/-- `n` steps from step `h` on. -/
def stepsMid (d : Dev nD) : ℕ → ℕ → P F → P F
  | 0, _, k => k
  | n + 1, h, k => stepMid d h (stepsMid d n (h + 1) k)

/-- The kernel's body. -/
def body : P F :=
  Prog.op .deviceId fun d =>
  signalS (leftDev d) barrier0 <| signalS (rightDev d) barrier0 <| waitR barrier0 2#32 <|
  products (firstOff d) (firstOff_inb d) fun a b => rings (fill a b) <| rings (fun i => sendS d i (sl 0) (sl 1)) <|
  (products (stepOff d 0) (stepOff_inb d 0) fun a b => rings (ringFirst d a b) <|
  stepsMid d 13 1 <|
  products (stepOff d 14) (stepOff_inb d 14) fun a b => rings (ringLast a b) <|
  rings (fun i => waitS i (sendSems i) (sl 2) (sl 0)) <| .ret ⟨⟩)

/-- It is the printed body. -/
theorem body_eq (t : Fin cfg0.N) : bodyAt0 (F := F) t = body := by
  chain_rfl

end Cert.Proof

end
-- ==== Proof.Proto.lean ====
/-
  The protocol between the devices: the semaphores of each device, what each unit of credit on them hands over, what every
  slot holds at every step, and which levels the waits sit at.

  A ring's message `k` goes from slot `sl k` of its sender into slot `sl (k + 1)` of its receiver, `k = 0 … 14`. A slot is used
  five times. A device tells its upper neighbour by one unit of credit that a slot can be written again; the credit of step `h`
  lets message `h + 1` go. Credits may arrive in any order, so each hands over the facts of all earlier credits too.
-/
module

public import proofs.«01_k».proof.Proof.Steps
public import Idealize.ShloMosaic.Lib.Rounds
public import Idealize.ShloMosaic.Lib.Release

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem

variable {F : FTy → Type} [FloatOps F]

/-! ## The ghost state -/

/-- A slot's hand-over: whose slot, on which ring, at which step. -/
abbrev Key : Type := Dev nD × Fin 4 × ℕ

/-- Round bookkeeping of semaphores. -/
abbrev UR : Type := URounds (GSem nD τ sig) ℕ

/-- The launch's own, the rings', and the slots' hand-overs. -/
def UU : Type := URounds (GSem nD τ sig) Unit × (UR × Release.USlots Key)

instance : URA UU := inferInstanceAs (URA (URounds (GSem nD τ sig) Unit × (UR × Release.USlots Key)))

def inEP : Emb (URounds (GSem nD τ sig) Unit) UU := (Emb.inl : Emb _ (URounds (GSem nD τ sig) Unit × (UR × Release.USlots Key)))
def inRest : Emb (UR × Release.USlots Key) UU := (Emb.inr : Emb _ (URounds (GSem nD τ sig) Unit × (UR × Release.USlots Key)))

local notation "𝕄" => MT nD τ sig ℕ (Elt F) ℕ UU ℕ

/-- The three parts of it, each owned by itself. -/
def EP : Emb (URounds (GSem nD τ sig) Unit) (MT nD τ sig ℕ (Elt F) ℕ UU ℕ) :=
  inEP.trans
    (uEmb (nD := nD) (sig := sig) (Ix := ℕ) (Val := Elt F) (Name := ℕ) (U := UU) (Lvl := ℕ)).toEmb

def ER : Emb UR (MT nD τ sig ℕ (Elt F) ℕ UU ℕ) :=
  ((Emb.inl : Emb UR (UR × Release.USlots Key)).trans inRest).trans
    (uEmb (nD := nD) (sig := sig) (Ix := ℕ) (Val := Elt F) (Name := ℕ) (U := UU) (Lvl := ℕ)).toEmb

def ES : Emb (Release.USlots Key) (MT nD τ sig ℕ (Elt F) ℕ UU ℕ) :=
  ((Emb.inr : Emb (Release.USlots Key) (UR × Release.USlots Key)).trans inRest).trans
    (uEmb (nD := nD) (sig := sig) (Ix := ℕ) (Val := Elt F) (Name := ℕ) (U := UU) (Lvl := ℕ)).toEmb

instance EP_landsIn : (EP : Emb _ 𝕄).LandsIn (upEmb : UEmb _ 𝕄) := by unfold EP; infer_instance
instance ER_landsIn : (ER : Emb UR 𝕄).LandsIn (upEmb : UEmb _ 𝕄) := by unfold ER; infer_instance
instance ES_landsIn : (ES : Emb (Release.USlots Key) 𝕄).LandsIn (upEmb : UEmb _ 𝕄) := by unfold ES; infer_instance

/-! ## Neighbours -/

theorem dn_up (c : Dev nD) (i : Fin 4) : dnDev (upDev c i) i = c := by revert c i; decide +kernel
theorem up_dn (c : Dev nD) (i : Fin 4) : upDev (dnDev c i) i = c := by revert c i; decide +kernel
theorem left_right (c : Dev nD) : leftDev (rightDev c) = c := by revert c; decide +kernel
theorem right_left (c : Dev nD) : rightDev (leftDev c) = c := by revert c; decide +kernel

/-! ## Semaphores -/

/-- What a semaphore is for. -/
inductive Kind where
  | none | bar | credit (i : Fin 4) | send (i : Fin 4) (s : Fin 3) | recv (i : Fin 4) (s : Fin 3)
  deriving DecidableEq

def kindOf : SemLoc sig → Kind
  | .reg q => if h : q.val < 4 then .credit ⟨q.val, h⟩ else .bar
  | .dma q =>
    if q.val < 3 then .none
    else if q.val < 15 then .send ⟨(q.val - 3) / 3 % 4, Nat.mod_lt _ (by decide)⟩ (sl (q.val - 3))
    else .recv ⟨(q.val - 15) / 3 % 4, Nat.mod_lt _ (by decide)⟩ (sl (q.val - 15))

/-- The semaphores by what they are for. -/
abbrev barLoc : SemLoc sig := .reg barrier0
abbrev credLoc (i : Fin 4) : SemLoc sig := .reg (credSem i).sem
abbrev sendLoc (i : Fin 4) (s : Fin 3) : SemLoc sig := .dma (semAt (sendSems i) s)
abbrev recvLoc (i : Fin 4) (s : Fin 3) : SemLoc sig := .dma (semAt (recvSems i) s)

theorem kind_bar : kindOf barLoc = .bar := by decide
theorem kind_credit (i : Fin 4) : kindOf (credLoc i) = .credit i := by revert i; decide +kernel
theorem kind_send (i : Fin 4) (s : Fin 3) : kindOf (sendLoc i s) = .send i s := by revert i s; decide +kernel
theorem kind_recv (i : Fin 4) (s : Fin 3) : kindOf (recvLoc i s) = .recv i s := by revert i s; decide +kernel

abbrev barCell (c : Dev nD) : GSem nD τ sig := ((c : Thread nD τ), barLoc)
abbrev credCell (c : Dev nD) (i : Fin 4) : GSem nD τ sig := ((c : Thread nD τ), credLoc i)
abbrev sendCell (c : Dev nD) (i : Fin 4) (s : Fin 3) : GSem nD τ sig := ((c : Thread nD τ), sendLoc i s)
abbrev recvCell (c : Dev nD) (i : Fin 4) (s : Fin 3) : GSem nD τ sig := ((c : Thread nD τ), recvLoc i s)

/-- The credit of one block. -/
abbrev N : ℕ := (slotM 0 0).view.dmaCredit

theorem N_pos : 0 < N := View.dmaCredit_pos _ (by decide)

theorem N_slot (i : Fin 4) (s : Fin 3) : (slotM i s).view.dmaCredit = N := by
  fin_cases i <;> rfl

/-! ## Slots -/

/-- Slot `s` of ring `i` on device `c`, at whatever it holds, -/
def slotAny (c : Dev nD) (i : Fin 4) (s : Fin 3) : sProp 𝕄 :=
  Release.slot ((slotM i s).view.loc (c : Thread nD τ)) (slotM i s).view.set

/-- and holding the block `v`. -/
def slotAt (c : Dev nD) (i : Fin 4) (s : Fin 3) (v : S256x2048.Idx → Elt F .bf16) : sProp 𝕄 :=
  iprop(∃ f, ⌜(slotM i s).view.read (Elt F) f = v⌝ ∗ ((slotM i s).view.loc (c : Thread nD τ) ↦[(slotM i s).view.set]{fullShare} f))

omit [FloatOps F] in
theorem slotAt_any (c : Dev nD) (i : Fin 4) (s : Fin 3) (v : S256x2048.Idx → Elt F .bf16) : slotAt c i s v ⊢ slotAny c i s := by
  unfold slotAt slotAny Release.slot
  iintro ⟨%f, -, H⟩
  iexists f; iexact H

omit [FloatOps F] in
theorem slotAny_at (c : Dev nD) (i : Fin 4) (s : Fin 3) : (slotAny c i s : sProp 𝕄) ⊢ iprop(∃ v, slotAt c i s v) := by
  unfold slotAt slotAny Release.slot
  iintro ⟨%f, H⟩
  iexists (slotM i s).view.read (Elt F) f, f
  isplitr [H]
  · ipureintro; rfl
  · iexact H

omit [FloatOps F] in
instance slotAny_storable (c : Dev nD) (i : Fin 4) (s : Fin 3) : BI.Storable (upEmb : UEmb _ 𝕄) (slotAny c i s) := by
  unfold slotAny; infer_instance
omit [FloatOps F] in
instance slotAt_storable (c : Dev nD) (i : Fin 4) (s : Fin 3) (v : S256x2048.Idx → Elt F .bf16) :
    BI.Storable (upEmb : UEmb _ 𝕄) (slotAt c i s v) := by
  unfold slotAt; infer_instance

/-! ## What is sent -/

section Values

variable (X : Dev nD → S4096x256.Idx → Elt F .bf16) (W : Dev nD → S256x8192.Idx → Elt F .bf16)

/-- A block of rows of device `c`'s columns of `x`, -/
def blockX (c : Dev nD) (off : Fin 2 → Nat) (h : ∀ a, off a + S256x256.size a ≤ S4096x256.size a) : Vec F S256x256 .bf16 :=
  ((Memref.whole cc0_stg0_0).access (Rect.unit (s := S4096x256) off S256x256.size h)).read (Elt F) (X c)

/-- half the columns of its rows of `w`, -/
def halfW (c : Dev nD) (j : Fin 2) : Vec F S256x4096 .bf16 :=
  ((Memref.whole cc0_stg1_0).access (Rect.unit (s := S256x8192) ![0, j.val * 4096] S256x4096.size (half_inb j))).read (Elt F) (W c)

/-- and their product. -/
def prodOf (c : Dev nD) (off : Fin 2 → Fin 2 → Nat) (h : ∀ j a, off j a + S256x256.size a ≤ S4096x256.size a) (j : Fin 2) :
    FVec F S256x4096 .f32 :=
  dotOf (blockX X c (off j) (h j)) (halfW W c j)

/-- The own part that device `c` adds on ring `i` at step `h`, -/
def ownPart (c : Dev nD) (i : Fin 4) (h : ℕ) : FVec F S256x2048 .f32 :=
  ringPart (e := .f32) (prodOf X W c (stepOff c h) (stepOff_inb c h) 0) (prodOf X W c (stepOff c h) (stepOff_inb c h) 1) i

/-- and the one it starts from. -/
def firstPart (c : Dev nD) (i : Fin 4) : FVec F S256x2048 .bf16 :=
  ringPart (e := .bf16) (truncf .bf16 (prodOf X W c (firstOff c) (firstOff_inb c) 0) bitsLt_bf16_f32)
    (truncf .bf16 (prodOf X W c (firstOff c) (firstOff_inb c) 1) bitsLt_bf16_f32) i

/-- Message `k` of device `c` on ring `i`. -/
def sent (i : Fin 4) : ℕ → Dev nD → FVec F S256x2048 .bf16
  | 0, c => firstPart X W c i
  | k + 1, c => truncf .bf16 (addf (extf .f32 (sent i k (upDev c i)) bitsLt_bf16_f32) (ownPart X W c i k)) bitsLt_bf16_f32

/-- Ring `i`'s columns of device `c`'s result. -/
def result (c : Dev nD) (i : Fin 4) : FVec F S256x2048 .f32 :=
  geluOf (addf (extf .f32 (sent X W i 14 (upDev c i)) bitsLt_bf16_f32) (ownPart X W c i 14))

/-- The messages that arrive on a slot: the receive semaphore of slot `s` counts message `msg r s` in its round `r`. -/
def msg (r : ℕ) (s : Fin 3) : ℕ := 3 * r + (s.val + 2) % 3

theorem msg_sl (k : ℕ) : msg (k / 3) (sl (k + 1)) = k := by unfold msg sl; simp only; omega

/-! ## What the units hand over -/

/-- What the credit of step `h` says of device `c`'s slot: it is released, and its semaphore is ready for message `h + 1`. -/
def fact (c : Dev nD) (i : Fin 4) (h : ℕ) : sProp 𝕄 :=
  iprop(Release.released ES (c, i, h) 1 ∗ reached ER (recvCell c i (sl (h + 2))) ((h + 1) / 3))

/-- The facts of the first `h` credits. -/
def facts (c : Dev nD) (i : Fin 4) (h : ℕ) : sProp 𝕄 := bigSep (Finset.Icc 1 h) (fact c i)

omit [FloatOps F] in
instance fact_persistent (c : Dev nD) (i : Fin 4) (h : ℕ) : BI.Persistent (fact (F := F) c i h) := by unfold fact; infer_instance
omit [FloatOps F] in
instance fact_storable (c : Dev nD) (i : Fin 4) (h : ℕ) : BI.Storable (upEmb : UEmb _ 𝕄) (fact c i h) := by
  unfold fact; infer_instance
omit [FloatOps F] in
instance facts_persistent (c : Dev nD) (i : Fin 4) (h : ℕ) : BI.Persistent (facts (F := F) c i h) := by unfold facts; infer_instance
omit [FloatOps F] in
instance facts_storable (c : Dev nD) (i : Fin 4) (h : ℕ) : BI.Storable (upEmb : UEmb _ 𝕄) (facts c i h) := by
  unfold facts; infer_instance

/-- The two slots of a ring's lower neighbour that the barrier hands over. -/
def lent (c : Dev nD) (i : Fin 4) : sProp 𝕄 := iprop(slotAny (dnDev c i) i 1 ∗ slotAny (dnDev c i) i 2)

/-- A neighbour's unit on the barrier hands over the slots of two rings. -/
def barPay (c : Dev nD) (d : ℕ) : sProp 𝕄 :=
  if d = 0 then iprop(lent c 0 ∗ lent c 1) else iprop(lent c 2 ∗ lent c 3)

omit [FloatOps F] in
instance barPay_storable (c : Dev nD) (d : ℕ) : BI.Storable (upEmb : UEmb _ 𝕄) (barPay c d) := by
  unfold barPay lent; split <;> infer_instance

/-- The units a round of a semaphore expects: one duty each, or one per credit, -/
def dutiesK (k : Kind) (r : ℕ) : Finset ℕ := match k with
  | .none => ∅
  | .bar => if r = 0 then {0, 1} else ∅
  | .credit _ => if r = 0 then Finset.Icc 1 13 else ∅
  | .send _ _ => if r < 5 then {0} else ∅
  | .recv _ _ => if r < 5 then {0} else ∅

/-- their sizes, -/
def amountK (k : Kind) : ℕ := match k with
  | .none => 1
  | .bar => 1
  | .credit _ => 1
  | .send _ _ => N
  | .recv _ _ => N

/-- and what they hand over. -/
def payloadK (c : Dev nD) (k : Kind) (r d : ℕ) : sProp 𝕄 := match k with
  | .none => iprop(emp)
  | .bar => barPay c d
  | .credit i => facts (dnDev c i) i d
  | .send i s => slotAny c i s
  | .recv i s => slotAt c i s (sent X W i (msg r s) (upDev c i))

theorem amountK_pos : ∀ k, 0 < amountK k
  | .none => Nat.one_pos
  | .bar => Nat.one_pos
  | .credit _ => Nat.one_pos
  | .send _ _ => N_pos
  | .recv _ _ => N_pos

instance payloadK_storable (c : Dev nD) (k : Kind) (r d : ℕ) : BI.Storable (upEmb : UEmb _ 𝕄) (payloadK X W c k r d) := by
  cases k <;> (dsimp only [payloadK]; infer_instance)

/-- The schedule. -/
def Rd : Schedule (GSem nD τ sig) ℕ 𝕄 where
  duties g r := dutiesK (kindOf g.2) r
  unitless _ := False
  amount g _ _ := amountK (kindOf g.2)
  payload g r d := payloadK X W g.1.1 (kindOf g.2) r d
  amount_pos g _ _ _ := amountK_pos (kindOf g.2)

instance Rd_storable (g : GSem nD τ sig) (r : ℕ) (d : ℕ) : BI.Storable (upEmb : UEmb _ 𝕄) ((Rd X W).payload g r d) :=
  payloadK_storable X W g.1.1 (kindOf g.2) r d

variable (c : Dev nD) (i : Fin 4) (s : Fin 3) (r d : ℕ)

theorem duties_bar : (Rd X W).duties (barCell c) 0 = {0, 1} := by
  show dutiesK (kindOf barLoc) 0 = _; rw [kind_bar]; rfl
theorem duties_credit : (Rd X W).duties (credCell c i) 0 = Finset.Icc 1 13 := by
  show dutiesK (kindOf (credLoc i)) 0 = _; rw [kind_credit]; rfl
theorem duties_send (hr : r < 5) : (Rd X W).duties (sendCell c i s) r = {0} := by
  show dutiesK (kindOf (sendLoc i s)) r = _; rw [kind_send]; exact if_pos hr
theorem duties_recv (hr : r < 5) : (Rd X W).duties (recvCell c i s) r = {0} := by
  show dutiesK (kindOf (recvLoc i s)) r = _; rw [kind_recv]; exact if_pos hr

theorem amount_bar : (Rd X W).amount (barCell c) r d = 1 := by
  show amountK (kindOf barLoc) = _; rw [kind_bar]; rfl
theorem amount_credit : (Rd X W).amount (credCell c i) r d = 1 := by
  show amountK (kindOf (credLoc i)) = _; rw [kind_credit]; rfl
theorem amount_send : (Rd X W).amount (sendCell c i s) r d = N := by
  show amountK (kindOf (sendLoc i s)) = _; rw [kind_send]; rfl
theorem amount_recv : (Rd X W).amount (recvCell c i s) r d = N := by
  show amountK (kindOf (recvLoc i s)) = _; rw [kind_recv]; rfl

theorem expect_bar : (Rd X W).expect (barCell c) 0 = 2 := by
  unfold Schedule.expect Schedule.amountOf; simp only [duties_bar, amount_bar]; rfl
theorem expect_credit : (Rd X W).expect (credCell c i) 0 = 13 := by
  unfold Schedule.expect Schedule.amountOf; simp only [duties_credit, amount_credit]; rfl
theorem expect_send (hr : r < 5) : (Rd X W).expect (sendCell c i s) r = N := by
  unfold Schedule.expect Schedule.amountOf; simp only [duties_send X W c i s r hr, amount_send, Finset.sum_singleton]
theorem expect_recv (hr : r < 5) : (Rd X W).expect (recvCell c i s) r = N := by
  unfold Schedule.expect Schedule.amountOf; simp only [duties_recv X W c i s r hr, amount_recv, Finset.sum_singleton]

theorem payload_bar : (Rd X W).payload (barCell c) r d = barPay c d := by
  show payloadK X W c (kindOf barLoc) r d = _; rw [kind_bar]; rfl
theorem payload_credit : (Rd X W).payload (credCell c i) r d = facts (dnDev c i) i d := by
  show payloadK X W c (kindOf (credLoc i)) r d = _; rw [kind_credit]; rfl
theorem payload_send : (Rd X W).payload (sendCell c i s) r d = slotAny c i s := by
  show payloadK X W c (kindOf (sendLoc i s)) r d = _; rw [kind_send]; rfl
theorem payload_recv : (Rd X W).payload (recvCell c i s) r d = slotAt c i s (sent X W i (msg r s) (upDev c i)) := by
  show payloadK X W c (kindOf (recvLoc i s)) r d = _; rw [kind_recv]; rfl

theorem rest_send (hr : r < 5) : bigSep ((Rd X W).duties (sendCell c i s) r \ ∅) (fun u => (Rd X W).payload (sendCell c i s) r u)
    = slotAny c i s := by
  rw [Finset.sdiff_empty, duties_send X W c i s r hr, bigSep_singleton, payload_send]
theorem rest_recv (hr : r < 5) : bigSep ((Rd X W).duties (recvCell c i s) r \ ∅) (fun u => (Rd X W).payload (recvCell c i s) r u)
    = slotAt c i s (sent X W i (msg r s) (upDev c i)) := by
  rw [Finset.sdiff_empty, duties_recv X W c i s r hr, bigSep_singleton, payload_recv]

/-- No semaphore has a duty after its fifth round, -/
theorem dutiesK_done (k : Kind) (h : 5 ≤ r) : dutiesK k r = ∅ := by
  cases k
  · rfl
  all_goals exact if_neg (by omega)

theorem duties_done (g : GSem nD τ sig) : ∀ r, 5 ≤ r → (Rd X W).duties g r = ∅ := fun r hr => dutiesK_done r _ hr

/-- and a barrier's or a credit's has none after its first. -/
theorem duties_bar_done : ∀ r, 1 ≤ r → (Rd X W).duties (barCell c) r = ∅ := fun r hr => by
  show dutiesK (kindOf barLoc) r = _; rw [kind_bar]; exact if_neg (by omega)
theorem duties_credit_done : ∀ r, 1 ≤ r → (Rd X W).duties (credCell c i) r = ∅ := fun r hr => by
  show dutiesK (kindOf (credLoc i)) r = _; rw [kind_credit]; exact if_neg (by omega)

end Values

end Cert.Proof

end
-- ==== Proof.Dues.lean ====
/-
  What each device owes the others, in the order its program pays it, and the levels its waits sit at.
-/
module

public import proofs.«01_k».proof.Proof.Proto

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem

variable {F : FTy → Type} [FloatOps F]

local notation "𝕄" => MT nD τ sig ℕ (Elt F) ℕ UU ℕ

/-! ## Dues -/

/-- Units that every device `c` owes a semaphore of the device `dest c`, at level `ix`. -/
structure Due where
  dest : Dev nD → Dev nD
  back : Dev nD → Dev nD
  dest_back : ∀ c, dest (back c) = c
  back_dest : ∀ c, back (dest c) = c
  sem : SemLoc sig
  ix : ℕ
  amt : ℕ

/-- The level of message `h` of ring `i`, -/
def lr (h : ℕ) (i : Fin 4) : ℕ := 2 + 8 * h + 2 * i.val

/-- and of the credit of step `h`. -/
def lc (h : ℕ) (i : Fin 4) : ℕ := 3 + 8 * h + 2 * i.val

/-- The barrier's unit to the left, -/
def dueLeft : Due := ⟨leftDev, rightDev, left_right, right_left, barLoc, 1, 1⟩
/-- and to the right. -/
def dueRight : Due := ⟨rightDev, leftDev, right_left, left_right, barLoc, 1, 1⟩

/-- Message `k` of ring `i`, -/
def dueSend (i : Fin 4) (k : ℕ) : Due :=
  ⟨fun c => dnDev c i, fun c => upDev c i, fun c => dn_up c i, fun c => up_dn c i, recvLoc i (sl (k + 1)), lr k i, N⟩
/-- and the credit of step `h`. -/
def dueCred (i : Fin 4) (h : ℕ) : Due :=
  ⟨fun c => upDev c i, fun c => dnDev c i, fun c => up_dn c i, fun c => dn_up c i, credLoc i, lc h i, 1⟩

/-- What device `c` owes. -/
def owesL : List Due → Dev nD → CellTallies nD τ sig ℕ
  | [], _ => 0
  | x :: l, c => owesL l c + tallyAt ((x.dest c : Thread nD τ), x.sem) x.ix x.amt

/-- The four rings' message `k`. -/
def duesSend (k : ℕ) (l : List Due) : List Due := dueSend 0 k :: dueSend 1 k :: dueSend 2 k :: dueSend 3 k :: l

/-- A step's dues on ring `i`. -/
def duesRing (h : ℕ) (i : Fin 4) (l : List Due) : List Due := dueCred i h :: dueSend i (h + 1) :: l

/-- A step's dues. -/
def duesStep (h : ℕ) (l : List Due) : List Due := duesRing h 0 (duesRing h 1 (duesRing h 2 (duesRing h 3 l)))

/-- The dues of `n` steps from step `h` on. -/
def duesMid : ℕ → ℕ → List Due
  | 0, _ => []
  | n + 1, h => duesStep h (duesMid n (h + 1))

/-- All of them. -/
def dues : List Due := dueLeft :: dueRight :: duesSend 0 (duesSend 1 (duesMid 13 1))

/-! ## Levels -/

@[irreducible] def L (g : GSem nD τ sig) : Finset ℕ := if g.1.2 = .tc then Finset.range 200 else ∅
def lv (_ : GSem nD τ sig) (i : ℕ) : ℕ := i

theorem L_of_ne (g : GSem nD τ sig) (h : g.1.2 ≠ .tc) : L g = ∅ := by unfold L; exact if_neg h
theorem L_tc (c : Dev nD) (sm : SemLoc sig) : L ((c : Thread nD τ), sm) = Finset.range 200 := by unfold L; exact if_pos rfl

/-- All the dues of a list sit above level `n`. -/
def Above (n : ℕ) (l : List Due) : Prop := ∀ x ∈ l, n < x.ix ∧ x.ix < 200

theorem Above.nil (n : ℕ) : Above n [] := fun _ h => absurd h List.not_mem_nil
theorem Above.cons {n : ℕ} {x : Due} {l : List Due} (h : n < x.ix ∧ x.ix < 200) (hl : Above n l) : Above n (x :: l) := fun y hy => by
  rcases List.mem_cons.mp hy with rfl | hy
  · exact h
  · exact hl y hy
theorem Above.mono {n k : ℕ} {l : List Due} (h : Above n l) (hk : k ≤ n) : Above k l := fun x hx =>
  ⟨Nat.lt_of_le_of_lt hk (h x hx).1, (h x hx).2⟩

theorem above_ring {n h : ℕ} {i : Fin 4} {l : List Due} (hn : n < 3 + 8 * h + 2 * i.val) (hh : h ≤ 13) (hl : Above n l) :
    Above n (duesRing h i l) := by
  have := i.isLt
  refine .cons (by simp only [dueCred, lc]; omega) (.cons (by simp only [dueSend, lr]; omega) hl)

theorem above_send {n k : ℕ} {l : List Due} (hn : n < 2 + 8 * k) (hk : k ≤ 14) (hl : Above n l) : Above n (duesSend k l) := by
  refine .cons ?_ (.cons ?_ (.cons ?_ (.cons ?_ hl))) <;> simp [dueSend, lr] <;> omega

/-- The dues of the steps from `h` on sit above the credits of the step before. -/
theorem above_mid : ∀ n h : ℕ, n + h ≤ 14 → Above (2 + 8 * h) (duesMid n h)
  | 0, _, _ => .nil _
  | n + 1, h, hn => by
    have ih : Above (2 + 8 * h) (duesMid n (h + 1)) := (above_mid n (h + 1) (by omega)).mono (by omega)
    refine above_ring ?_ ?_ (above_ring ?_ ?_ (above_ring ?_ ?_ (above_ring ?_ ?_ ih))) <;> first | omega | (simp; omega)

/-- Where a list of dues owes anything, one of them does. -/
theorem owesL_pos (c : Dev nD) (g : GSem nD τ sig) (u : ℕ) : ∀ l : List Due, 0 < owesL l c g u →
    ∃ x ∈ l, g = ((x.dest c : Thread nD τ), x.sem) ∧ u = x.ix
  | [], h => absurd h (Nat.lt_irrefl 0)
  | x :: l, h => by
    unfold owesL at h
    rw [Pi.add_apply, Finsupp.add_apply, tallyAt_apply] at h
    by_cases hx : g = ((x.dest c : Thread nD τ), x.sem) ∧ u = x.ix
    · exact ⟨x, List.mem_cons_self, hx⟩
    · rw [if_neg hx, Nat.add_zero] at h
      obtain ⟨y, hy, he⟩ := owesL_pos c g u l h
      exact ⟨y, List.mem_cons_of_mem _ hy, he⟩

omit [FloatOps F] in
/-- A device may wait at a level below all it owes. -/
theorem mayWait (c : Dev nD) (sm : SemLoc sig) (n : ℕ) (l : List Due) (hn : n < 200) (h : Above n l) :
    (levAts L lv : sProp 𝕄) ⊢ MayWait (c : Thread nD τ) sm n (owesL l c) := by
  refine MayOwe.of_cut (L := L) (lev := lv) n (fun p hp => ?_) (fun g u hg => ?_) (fun p hp => ?_) (fun g u hg => ?_)
  · rw [Finset.mem_singleton.mp hp, L_tc]; exact Finset.mem_range.mpr hn
  · obtain ⟨x, hx, rfl, rfl⟩ := owesL_pos c g u l hg
    rw [L_tc]; exact Finset.mem_range.mpr (h x hx).2
  · rw [Finset.mem_singleton.mp hp]; exact Nat.le_refl _
  · obtain ⟨x, hx, rfl, rfl⟩ := owesL_pos c g u l hg
    exact (h x hx).1

/-! ## The devices' cells -/

/-- The semaphores of the rings and the barrier's, numbered. -/
def semOf (j : Fin 29) : SemLoc sig :=
  if j.val < 24 then .dma ⟨(3 + j.val) % 27, Nat.mod_lt _ (by decide)⟩ else .reg ⟨(j.val - 24) % 5, Nat.mod_lt _ (by decide)⟩

theorem semOf_injective : Function.Injective semOf := by decide +kernel

theorem semOf_bar : semOf 28 = barLoc := by decide
theorem semOf_credit : ∀ i : Fin 4, ∃ j, semOf j = credLoc i := by decide +kernel
theorem semOf_send : ∀ (i : Fin 4) (s : Fin 3), ∃ j, semOf j = sendLoc i s := by decide +kernel
theorem semOf_recv : ∀ (i : Fin 4) (s : Fin 3), ∃ j, semOf j = recvLoc i s := by decide +kernel

def cellAt (x : Dev nD × Fin 29) : GSem nD τ sig := ((x.1 : Thread nD τ), semOf x.2)

theorem cellAt_injective : Function.Injective cellAt := fun x y h => by
  have h1 : x.1 = y.1 := congrArg (fun g : GSem nD τ sig => g.1.1) h
  have h2 : semOf x.2 = semOf y.2 := congrArg Prod.snd h
  exact Prod.ext h1 (semOf_injective h2)

/-- All cells of the protocol. -/
def cells : Finset (GSem nD τ sig) := Finset.univ.map ⟨cellAt, cellAt_injective⟩

theorem mem_cells {sm : SemLoc sig} (c : Dev nD) (h : ∃ j, semOf j = sm) : ((c : Thread nD τ), sm) ∈ cells := by
  obtain ⟨j, rfl⟩ := h
  exact Finset.mem_map.mpr ⟨(c, j), Finset.mem_univ _, rfl⟩

/-- The slots' hand-overs: one per device, ring and step. -/
def keys : Finset Key := (Finset.univ : Finset (Dev nD)) ×ˢ (Finset.univ : Finset (Fin 4)) ×ˢ Finset.Icc 1 13

theorem mem_keys {c : Dev nD} {i : Fin 4} {h : ℕ} (h1 : 1 ≤ h) (h2 : h ≤ 13) : (c, i, h) ∈ keys := by
  simp only [keys, Finset.mem_product, Finset.mem_univ, true_and, Finset.mem_Icc]; exact ⟨h1, h2⟩

/-- The slot a key hands over. -/
def keySlot (k : Key) : sProp 𝕄 := slotAny k.1 k.2.1 (sl (k.2.2 + 2))

omit [FloatOps F] in
instance keySlot_storable (k : Key) : BI.Storable (upEmb : UEmb _ 𝕄) (keySlot k) := by unfold keySlot; infer_instance

section Known

variable (X : Dev nD → S4096x256.Idx → Elt F .bf16) (W : Dev nD → S256x8192.Idx → Elt F .bf16)
variable (K : GSem nD τ sig → ℕ) (J : Key → ℕ)

/-- What every device knows: the protocol of every cell and of every slot, and the levels. -/
def known : sProp 𝕄 :=
  iprop(levAts L lv ∗ bigSep cells (fun g => iprop(cellInv ER (Rd X W) (K g) g ∗ reached ER g 0))
    ∗ bigSep keys (fun k => Release.slotInv ES (J k) k (keySlot k)))

instance known_persistent : BI.Persistent (known X W K J) := by unfold known; infer_instance

theorem known_cell {g : GSem nD τ sig} (hg : g ∈ cells) : known X W K J ⊢ iprop(cellInv ER (Rd X W) (K g) g ∗ reached ER g 0) := by
  unfold known; iintro ⟨-, H, -⟩
  iapply (show (bigSep cells (fun g => iprop(cellInv ER (Rd X W) (K g) g ∗ reached ER g 0)) : sProp 𝕄) ⊢ _ from bigSep_elim hg); iexact H

theorem known_key {k : Key} (hk : k ∈ keys) : known X W K J ⊢ Release.slotInv ES (J k) k (keySlot k) := by
  unfold known; iintro ⟨-, -, H⟩
  iapply (show (bigSep keys (fun k => Release.slotInv ES (J k) k (keySlot k)) : sProp 𝕄) ⊢ _ from bigSep_elim hk); iexact H

end Known

end Cert.Proof

end
-- ==== Proof.Ops.lean ====
/-
  One lemma per operation of the kernel's body: what it takes, what it gives back.
-/
module

public import proofs.«01_k».proof.Proof.Dues
public import Idealize.ShloMosaic.Lib.Pipeline.Value

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

abbrev 𝒱₀ : Variants := Variants.none

/-- Device `c` may run `p`, to end with `Q`. -/
abbrev runs (c : Dev nD) (p : P F) (Q : PUnit → sProp 𝕄) : sProp 𝕄 :=
  wp frame (wpE (defs₀ (F := F)) 𝒱₀ (c : Thread nD τ) none) Set.univ p Q

/-- The owner of a semaphore stands before its round `R`. -/
def pos (g : GSem nD τ sig) (R : ℕ) : sProp 𝕄 := iprop(atPos ER g R ∅ 0 ∗ reached ER g R)

/-- Device `c` owes the dues of `l`. -/
def due (c : Dev nD) (l : List Due) : sProp 𝕄 := iprop(∃ B, owes (c : Thread nD τ) (owesL l c) B)

variable (X : Dev nD → S4096x256.Idx → Elt F .bf16) (W : Dev nD → S256x8192.Idx → Elt F .bf16)
variable (K : GSem nD τ sig → ℕ) (J : Key → ℕ)

/-- Every device may wait below what it owes. -/
theorem known_wait (c : Dev nD) (sm : SemLoc sig) (n : ℕ) (l : List Due) (hn : n < 200) (hl : Above n l) :
    known X W K J ⊢ (MayWait (c : Thread nD τ) sm n (owesL l c) : sProp 𝕄) := by
  unfold known
  iintro ⟨H, -⟩
  iapply (mayWait c sm n l hn hl); iexact H

/-! ## Waits for transfers -/

/-- A wait on one of the slots' semaphores takes the round's payload. -/
theorem op_wait (c : Dev nD) (i : Fin 4) (a : DmaSems sig S3) (s s' : Fin 3) (r n : ℕ) (l : List Due) (pay : sProp 𝕄)
    (hg : ((c : Thread nD τ), SemLoc.dma (semAt a s)) ∈ cells)
    (he : (Rd X W).expect ((c : Thread nD τ), .dma (semAt a s)) r = N)
    (hp : bigSep ((Rd X W).duties ((c : Thread nD τ), .dma (semAt a s)) r \ ∅)
      (fun u => (Rd X W).payload ((c : Thread nD τ), .dma (semAt a s)) r u) = pay)
    (hn : n < 200) (hl : Above n l) (k : P F) (Q : PUnit → sProp 𝕄) :
    iprop(known X W K J ∗ due c l ∗ cred (tallyAt ((c : Thread nD τ), .dma (semAt a s)) n N) ∗ pos ((c : Thread nD τ), .dma (semAt a s)) r)
      ⊢ iprop(((due c l ∗ pos ((c : Thread nD τ), .dma (semAt a s)) (r + 1) ∗ pay) -∗ runs c k Q) -∗ runs c (waitS i a s s' k) Q) := by
  unfold due pos waitS
  iintro ⟨#HK, ⟨%B, HO⟩, Hc, ⟨Hat, -⟩⟩ Hk
  ihave ⟨#Hi, -⟩ := (known_cell X W K J hg) $$ HK
  iapply (Rounds.wp_wait_rest_token 𝒱₀ ER (Rd X W) (c : Thread nD τ) none (κ := K ((c : Thread nD τ), .dma (semAt a s))) (k' := N)
      (fun K' => (wpE_waitDma2_eq 𝒱₀ (c : Thread nD τ) none Set.univ K').trans (by rw [← N_slot i s])) (Set.mem_univ _) n
      (O := owesL l c) (W := B) (R := r) (m := 0) (T := ∅) (by rw [he, Nat.zero_add])) $$ [Hc HO Hat]
  · isplitr; · iexact Hi
    isplitl [Hc]; · iexact Hc
    isplitl [HO]; · iexact HO
    isplitr
    · iapply (known_wait X W K J c (.dma (semAt a s)) n l hn hl); iexact HK
    iexact Hat
  iintro ⟨HO, Hat, Hr, Hpay⟩
  ihave Hp := (Entails.of_eq hp) $$ Hpay
  iapply Hk
  isplitl [HO]; · iexists _; iexact HO
  isplitl [Hat Hr]
  · isplitl [Hat] <;> iassumption
  iexact Hp

/-- A finished send gives its slot back. -/
theorem op_waitSend (c : Dev nD) (i : Fin 4) (s s' : Fin 3) (r : ℕ) (l : List Due) (hr : r < 5) (hl : Above 0 l) (k : P F) (Q : PUnit → sProp 𝕄) :
    iprop(known X W K J ∗ due c l ∗ cred (tallyAt (sendCell c i s) 0 N) ∗ pos (sendCell c i s) r)
      ⊢ iprop(((due c l ∗ pos (sendCell c i s) (r + 1) ∗ slotAny c i s) -∗ runs c k Q) -∗ runs c (waitS i (sendSems i) s s' k) Q) :=
  op_wait X W K J c i (sendSems i) s s' r 0 l _ (mem_cells c (semOf_send i s)) (expect_send X W c i s r hr) (rest_send X W c i s r hr)
    (by decide) hl k Q

/-- An arrived message comes with its slot. -/
theorem op_recv (c : Dev nD) (i : Fin 4) (s s' : Fin 3) (r n : ℕ) (l : List Due) (hr : r < 5) (hn : n < 200) (hl : Above n l)
    (k : P F) (Q : PUnit → sProp 𝕄) :
    iprop(known X W K J ∗ due c l ∗ cred (tallyAt (recvCell c i s) n N) ∗ pos (recvCell c i s) r)
      ⊢ iprop(((due c l ∗ pos (recvCell c i s) (r + 1) ∗ slotAt c i s (sent X W i (msg r s) (upDev c i))) -∗ runs c k Q)
          -∗ runs c (waitS i (recvSems i) s s' k) Q) :=
  op_wait X W K J c i (recvSems i) s s' r n l _ (mem_cells c (semOf_recv i s)) (expect_recv X W c i s r hr) (rest_recv X W c i s r hr)
    hn hl k Q

/-! ## Credits -/

/-- Handing up a slot: the credit of step `h` says so. -/
theorem op_credit (c : Dev nD) (i : Fin 4) (h : ℕ) (l : List Due) (h1 : 1 ≤ h) (h2 : h ≤ 13) (k : P F) (Q : PUnit → sProp 𝕄) :
    iprop(known X W K J ∗ due c (dueCred i h :: l) ∗ dutyTok ER (credCell (upDev c i) i) 0 h ∗ facts c i h)
      ⊢ iprop((due c l -∗ runs c k Q) -∗ runs c (signalS (upDev c i) (credSem i).sem k) Q) := by
  unfold due signalS
  iintro ⟨#HK, ⟨%B, HO⟩, Ht, Hf⟩ Hk
  ihave ⟨#Hi, #Hr⟩ := (known_cell X W K J (mem_cells (upDev c i) (semOf_credit i))) $$ HK
  iapply (Rounds.wp_signal 𝒱₀ ER (Rd X W) (c : Thread nD τ) none (dst := (upDev c i : Thread nD τ)) (κ := K (credCell (upDev c i) i))
      (r := 0) (d := h) (k' := 1)
      (by rw [duties_credit]; exact Finset.mem_Icc.mpr ⟨h1, h2⟩) (amount_credit X W (upDev c i) i 0 h) (lc h i) (owesL l c) rfl) $$ [HO Ht Hf]
  · isplitr; · iexact Hi
    isplitl [HO]; · iexact HO
    isplitl [Ht]; · iexact Ht
    isplitl [Hf]
    · rw [payload_credit, dn_up]; iexact Hf
    · iexact Hr
  iintro HO
  iapply Hk
  iexists _; iexact HO

/-- The owner of ring `i`'s credit semaphore has waited for `n` of its units and keeps the facts of the units it took. -/
def posC (c : Dev nD) (i : Fin 4) (n : ℕ) : sProp 𝕄 :=
  iprop(∃ T : Finset ℕ, ⌜n + (Finset.Icc 1 13 \ T).card ≤ 13⌝ ∗ atPos ER (credCell c i) 0 T n ∗ bigSep T (fun d => facts (dnDev c i) i d))

omit [FloatOps F] in
theorem facts_fact (c : Dev nD) (i : Fin 4) (h d : ℕ) (h1 : 1 ≤ h) (hd : h ≤ d) : (facts c i d : sProp 𝕄) ⊢ fact c i h := by
  unfold facts; exact bigSep_elim (Finset.mem_Icc.mpr ⟨h1, hd⟩)

omit [FloatOps F] in
theorem facts_zero (c : Dev nD) (i : Fin 4) : (emp : sProp 𝕄) ⊢ facts c i 0 := by
  unfold facts; rw [show Finset.Icc 1 0 = (∅ : Finset ℕ) from rfl, bigSep_empty]; exact BI.Entails.refl _

omit [FloatOps F] in
theorem facts_succ (c : Dev nD) (i : Fin 4) (h : ℕ) : iprop(fact c i (h + 1) ∗ facts c i h) ⊢ (facts c i (h + 1) : sProp 𝕄) := by
  unfold facts
  rw [show Finset.Icc 1 (h + 1) = insert (h + 1) (Finset.Icc 1 h) from by ext x; simp only [Finset.mem_insert, Finset.mem_Icc]; omega,
    bigSep_insert (by simp)]
  exact BI.Entails.refl _

/-- Of `h` units taken from the duties `1 … 13`, one is of step `h` or a later one. -/
theorem some_late (S : Finset ℕ) (h : ℕ) (h1 : 1 ≤ h) (hS : S ⊆ Finset.Icc 1 13) (hc : h + (Finset.Icc 1 13 \ S).card ≤ 13) :
    ∃ d ∈ S, h ≤ d := by
  by_contra hn
  push Not at hn
  have hsub : S ⊆ Finset.Icc 1 (h - 1) := fun d hd => by
    have h2 := Finset.mem_Icc.mp (hS hd); have h3 := hn d hd
    exact Finset.mem_Icc.mpr ⟨h2.1, by omega⟩
  have h3 := Finset.card_le_card hsub
  have h4 := Finset.card_sdiff_add_card_eq_card hS
  simp only [Nat.card_Icc] at h3 h4
  omega

/-- The wait for the credit of step `h`. -/
theorem op_waitCredit (c : Dev nD) (i : Fin 4) (h : ℕ) (l : List Due) (h1 : 1 ≤ h) (h2 : h ≤ 13) (hl : Above (lc h i) l) (k : P F)
    (Q : PUnit → sProp 𝕄) :
    iprop(known X W K J ∗ due c l ∗ cred (tallyAt (credCell c i) (lc h i) 1) ∗ posC c i (h - 1))
      ⊢ iprop(((due c l ∗ posC c i h ∗ fact (dnDev c i) i h) -∗ runs c k Q) -∗ runs c (waitR (credSem i).sem 1#32 k) Q) := by
  unfold due posC waitR
  iintro ⟨#HK, ⟨%B, HO⟩, Hc, %T, -, Hat, #HT⟩ Hk
  ihave ⟨#Hi, -⟩ := (known_cell X W K J (mem_cells c (semOf_credit i))) $$ HK
  have hix : lc h i < 200 := by have := i.isLt; unfold lc; omega
  iapply (Rounds.wp_wait 𝒱₀ ER (Rd X W) (c : Thread nD τ) none (κ := K (credCell c i)) (k' := 1)
      (wpE_semWait_eq 𝒱₀ (c : Thread nD τ) none Set.univ) (Set.mem_univ _) (cr := Finsupp.single (lc h i) 1)
      (O := owesL l c) (W := B) {(credLoc i, lc h i)} (R := 0) (m := h - 1) (T := T)
      (Util.total_single _ _) (image_single_subset _ _ _)) $$ [Hc HO Hat]
  · isplitr; · iexact Hi
    isplitl [Hc]; · iexact Hc
    isplitl [HO]; · iexact HO
    isplitr
    · iapply (known_wait X W K J c (credLoc i) (lc h i) l hix hl); iexact HK
    iexact Hat
  iintro %S ⟨%hS, HO, Hat, Hpay⟩
  rw [duties_credit, expect_credit] at hS
  obtain ⟨hTS, hSd, hcard⟩ := hS
  have he : h - 1 + 1 = h := by omega
  rw [he] at hcard
  obtain ⟨d, hd, hhd⟩ := some_late S h h1 hSd hcard
  ihave #Hp := (show bigSep (S \ T) (fun d => (Rd X W).payload (credCell c i) 0 d) ⊢ bigSep (S \ T) (fun d => facts (dnDev c i) i d) from
    bigSep_mono fun d _ => Entails.of_eq (payload_credit X W c i 0 d)) $$ Hpay
  ihave #Hall := (show iprop(bigSep T (fun d => facts (dnDev c i) i d) ∗ bigSep (S \ T) (fun d => facts (dnDev c i) i d))
      ⊢ (bigSep S (fun d => facts (dnDev c i) i d) : sProp 𝕄) from by
        exact Entails.of_eq (by rw [← Finset.union_sdiff_of_subset hTS, bigSep_union Finset.disjoint_sdiff, Finset.union_sdiff_of_subset hTS]; rfl)) $$ [HT Hp]
  · isplitl; · iexact HT
    iexact Hp
  ihave #Hfd := (show (bigSep S (fun d => facts (dnDev c i) i d) : sProp 𝕄) ⊢ fact (dnDev c i) i h from
    (bigSep_elim hd).trans (facts_fact _ _ _ _ h1 hhd)) $$ Hall
  iapply Hk
  isplitl [HO]; · iexists _; iexact HO
  isplitl [Hat]
  · iexists S
    isplitr; · ipureintro; exact hcard
    isplitl [Hat]
    · rw [← he]; iexact Hat
    · iexact Hall
  iexact Hfd

/-! ## Transfers -/

omit [FloatOps F] in
/-- A slot written whole holds what was written. -/
theorem slot_written (c : Dev nD) (i : Fin 4) (s : Fin 3) (u v : S256x2048.Idx → Elt F .bf16)
    (fd : Buf (Elt F) ((slotM i s).view.loc (c : Thread nD τ))) (h : u = v) :
    ((slotM i s).view.loc (c : Thread nD τ) ↦[(slotM i s).view.set]{fullShare} ((slotM i s).view.write (Elt F) fd u Finset.univ))
      ⊢ (slotAt c i s v : sProp 𝕄) := by
  unfold slotAt
  iintro H
  iexists ((slotM i s).view.write (Elt F) fd u Finset.univ)
  isplitr [H]
  · ipureintro; exact (View.read_write_univ _ _).trans h
  · iexact H

/-- Sending message `m` of a ring: from slot `sl k`, which holds it, into the next slot of the neighbour below. -/
theorem op_send (c : Dev nD) (i : Fin 4) (m : ℕ) (l : List Due) (hm : m ≤ 14) (k : P F) (Q : PUnit → sProp 𝕄) :
    iprop(known X W K J ∗ due c (dueSend i m :: l) ∗ slotAt c i (sl m) (sent X W i m c) ∗ slotAny (dnDev c i) i (sl (m + 1))
        ∗ dutyTok ER (sendCell c i (sl m)) (m / 3) 0 ∗ reached ER (sendCell c i (sl m)) (m / 3)
        ∗ dutyTok ER (recvCell (dnDev c i) i (sl (m + 1))) (m / 3) 0 ∗ reached ER (recvCell (dnDev c i) i (sl (m + 1))) (m / 3))
      ⊢ iprop(((due c l ∗ cred (tallyAt (sendCell c i (sl m)) 0 N)) -∗ runs c k Q)
          -∗ runs c (sendS c i (sl m) (sl (m + 1)) k) Q) := by
  have hr : m / 3 < 5 := by omega
  unfold due sendS
  rw [show slotAt c i (sl m) (sent X W i m c) = iprop(∃ f, ⌜(slotM i (sl m)).view.read (Elt F) f = sent X W i m c⌝
      ∗ ((slotM i (sl m)).view.loc (c : Thread nD τ) ↦[(slotM i (sl m)).view.set]{fullShare} f)) from rfl,
    show (slotAny (dnDev c i) i (sl (m + 1)) : sProp 𝕄) = iprop(∃ f, ((slotM i (sl (m + 1))).view.loc (dnDev c i : Thread nD τ)
      ↦[(slotM i (sl (m + 1))).view.set]{fullShare} f)) from rfl]
  iintro ⟨#HK, ⟨%B, HO⟩, ⟨%fs, %hfs, Hs⟩, ⟨%fd, Hd⟩, HtS, HrS, HtR, HrR⟩ Hk
  ihave ⟨#HiS, -⟩ := (known_cell X W K J (mem_cells c (semOf_send i (sl m)))) $$ HK
  ihave ⟨#HiR, -⟩ := (known_cell X W K J (mem_cells (dnDev c i) (semOf_recv i (sl (m + 1))))) $$ HK
  iapply (Rounds.wp_send_pointsTo 𝒱₀ ER (Rd X W) (c : Thread nD τ) none (κ₁ := K (sendCell c i (sl m)))
      (κ₂ := K (recvCell (dnDev c i) i (sl (m + 1)))) (sS := sendLoc i (sl m)) (sem := recvLoc i (sl (m + 1))) (r₁ := m / 3) (r₂ := m / 3) (d₁ := 0) (d₂ := 0) (fs := fs) (fd := fd)
      (by rw [duties_send X W c i _ _ hr]; exact Finset.mem_singleton_self _)
      (by rw [duties_recv X W _ i _ _ hr]; exact Finset.mem_singleton_self _)
      (lr m i) 0 N (N_slot i (sl (m + 1))) (amount_send X W c i _ _ _) (amount_recv X W _ i _ _ _) (owesL l c) rfl (W := B)
      (by rw [payload_send]; unfold slotAny Release.slot; iintro H; iexists fs; iexact H)
      (by rw [payload_recv, msg_sl, up_dn]; exact slot_written _ _ _ _ _ _ hfs)) $$ [HO Hs Hd HtS HrS HtR HrR]
  · isplitr; · iexact HiS
    isplitr; · iexact HiR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [HO]; · iexists _; iexact HO
  iexact Hc

/-! ## Slots -/

/-- The elements of a slot, as the program loads and stores them, are the slot's. -/
theorem slot_access_set (i : Fin 4) (s : Fin 3) : ((comm i).access (slotRect s)).set = (slotM i s).view.set :=
  (View.set_reshape ((comm i).access (slotRect s)) _).symm

/-- Loading a slot. -/
theorem op_load (c : Dev nD) (i : Fin 4) (s : Fin 3) (v : S256x2048.Idx → Elt F .bf16) (k : Vec F S1x256x2048 .bf16 → P F)
    (Q : PUnit → sProp 𝕄) :
    slotAt c i s v ⊢ iprop((∀ b, ⌜shapeCast S256x2048 b shapeCasts_S1x256x2048_S256x2048 = v⌝ -∗ slotAt c i s v -∗ runs c (k b) Q)
      -∗ runs c (loadS i s k) Q) := by
  unfold slotAt loadS
  iintro ⟨%f, %hf, H⟩ Hk
  iapply (wp_load_rect 𝒱₀ (c : Thread nD τ) none Set.univ (m := comm i) (r := slotRect s) (slot_access_set i s).subset) $$ [H]
  · iexact H
  iintro H
  iapply Hk $$ %(((comm i).access (slotRect s)).read (Elt F) f) []
  · ipureintro; exact hf
  iexists f
  isplitr [H]
  · ipureintro; exact hf
  · iexact H

omit [FloatOps F] in
/-- A slot stored whole holds what was stored. -/
theorem slot_stored (c : Dev nD) (i : Fin 4) (s : Fin 3) (u : S256x2048.Idx → Elt F .bf16)
    (f : Buf (Elt F) (((comm i).access (slotRect s)).loc (c : Thread nD τ))) :
    (((comm i).access (slotRect s)).loc (c : Thread nD τ) ↦[(slotM i s).view.set]{fullShare}
        (((comm i).access (slotRect s)).write (Elt F) f (shapeCast S1x256x2048 u shapeCasts_S256x2048_S1x256x2048) Finset.univ))
      ⊢ (slotAt c i s u : sProp 𝕄) := by
  unfold slotAt
  iintro H
  iexists (((comm i).access (slotRect s)).write (Elt F) f (shapeCast S1x256x2048 u shapeCasts_S256x2048_S1x256x2048) Finset.univ)
  isplitr [H]
  · ipureintro
    show shapeCast S256x2048 (((comm i).access (slotRect s)).read (Elt F) (((comm i).access (slotRect s)).write (Elt F) f
      (shapeCast S1x256x2048 u shapeCasts_S256x2048_S1x256x2048) Finset.univ)) shapeCasts_S1x256x2048_S256x2048 = u
    exact (congrArg (fun b : S1x256x2048.Idx → Elt F .bf16 => shapeCast S256x2048 b shapeCasts_S1x256x2048_S256x2048)
      (View.read_write_univ (v := (comm i).access (slotRect s)) f _)).trans (shapeCast_shapeCast _ _ _)
  · iexact H

/-- Storing a block into a slot. -/
theorem op_store (c : Dev nD) (i : Fin 4) (s : Fin 3) (u : FVec F S256x2048 .bf16) (k : P F) (Q : PUnit → sProp 𝕄) :
    slotAny c i s ⊢ iprop((slotAt c i s u -∗ runs c k Q) -∗ runs c (storeS i s (packOf u) k) Q) := by
  unfold slotAny Release.slot storeS
  iintro ⟨%f, H⟩ Hk
  iapply (wp_store 𝒱₀ (c : Thread nD τ) none Set.univ (m := comm i) (r := slotRect s) (Mk := Finset.univ)
    (slot_access_set i s).subset) $$ [H]
  · iexact H
  iintro H
  iapply Hk
  iapply (slot_stored c i s u f); iexact H

end Cert.Proof

end
-- ==== Proof.Blocks.lean ====
/-
  The operations on the blocks a device holds whole: the products of its own blocks, the result's columns, and the barrier.
-/
module

public import proofs.«01_k».proof.Proof.Ops
public import Idealize.ShloMosaic.Lib.Pipeline.Value

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

variable (X : Dev nD → S4096x256.Idx → Elt F .bf16) (W : Dev nD → S256x8192.Idx → Elt F .bf16)
variable (K : GSem nD τ sig → ℕ) (J : Key → ℕ)

/-! ## The operands -/

/-- Device `c` holds its columns of `x` and its rows of `w`. -/
def holds (c : Dev nD) : sProp 𝕄 :=
  iprop((((c : Thread nD τ).loc cc0_stg0_0) ↦{fullShare} (X c : Buf (Elt F) ((c : Thread nD τ).loc cc0_stg0_0)))
    ∗ (((c : Thread nD τ).loc cc0_stg1_0) ↦{fullShare} (W c : Buf (Elt F) ((c : Thread nD τ).loc cc0_stg1_0))))

/-- Loading half of `w`'s columns. -/
theorem op_loadW (c : Dev nD) (j : Fin 2) (k : Vec F S256x4096 .bf16 → P F) (Q : PUnit → sProp 𝕄) :
    (((c : Thread nD τ).loc cc0_stg1_0) ↦{fullShare} (W c : Buf (Elt F) ((c : Thread nD τ).loc cc0_stg1_0)) : sProp 𝕄)
      ⊢ iprop(((((c : Thread nD τ).loc cc0_stg1_0) ↦{fullShare} (W c : Buf (Elt F) ((c : Thread nD τ).loc cc0_stg1_0)))
        -∗ runs c (k (halfW W c j)) Q) -∗ runs c (loadW j k) Q) :=
  wp_load_rect 𝒱₀ (c : Thread nD τ) none Set.univ (m := Memref.whole cc0_stg1_0)
    (r := Rect.unit (s := S256x8192) ![0, j.val * 4096] S256x4096.size (half_inb j)) (Finset.subset_univ _)

/-- Loading a block of `x`. -/
theorem op_loadX (c : Dev nD) (off : Fin 2 → Nat) (h : ∀ a, off a + S256x256.size a ≤ S4096x256.size a)
    (k : Vec F S256x256 .bf16 → P F) (Q : PUnit → sProp 𝕄) :
    (((c : Thread nD τ).loc cc0_stg0_0) ↦{fullShare} (X c : Buf (Elt F) ((c : Thread nD τ).loc cc0_stg0_0)) : sProp 𝕄)
      ⊢ iprop(((((c : Thread nD τ).loc cc0_stg0_0) ↦{fullShare} (X c : Buf (Elt F) ((c : Thread nD τ).loc cc0_stg0_0)))
        -∗ runs c (k (blockX X c off h)) Q) -∗ runs c (loadX off h k) Q) :=
  wp_load_rect 𝒱₀ (c : Thread nD τ) none Set.univ (m := Memref.whole cc0_stg0_0)
    (r := Rect.unit (s := S4096x256) off S256x256.size h) (Finset.subset_univ _)

/-- Both partial products. -/
theorem op_products (c : Dev nD) (off : Fin 2 → Fin 2 → Nat) (h : ∀ j a, off j a + S256x256.size a ≤ S4096x256.size a)
    (k : FVec F S256x4096 .f32 → FVec F S256x4096 .f32 → P F) (Q : PUnit → sProp 𝕄) :
    holds X W c ⊢ iprop((holds X W c -∗ runs c (k (prodOf X W c off h 0) (prodOf X W c off h 1)) Q) -∗ runs c (products off h k) Q) := by
  unfold holds products
  iintro ⟨HX, HW⟩ Hk
  iapply (op_loadX X c (off 0) (h 0)) $$ HX; iintro HX
  iapply (op_loadW W c 0) $$ HW; iintro HW
  iapply (op_loadX X c (off 1) (h 1)) $$ HX; iintro HX
  iapply (op_loadW W c 1) $$ HW; iintro HW
  iapply Hk
  isplitl [HX]
  · iexact HX
  · iexact HW

/-! ## The result -/

/-- Where in its quarter of the columns an element of the result sits. -/
def colOf (x : S256x8192.Idx) : S256x2048.Idx := fun a =>
  ⟨(x a).val % S256x2048.size a, Nat.mod_lt _ (by fin_cases a <;> decide)⟩

/-- The quarter it sits in. -/
def quarterOf (x : S256x8192.Idx) : Fin 4 := ⟨(x 1).val / 2048, by have h : (x 1).val < 8192 := (x 1).isLt; omega⟩

/-- Four blocks side by side. -/
def outOf (g : Fin 4 → S256x2048.Idx → Elt F .f32) (x : S256x8192.Idx) : Elt F .f32 := g (quarterOf x) (colOf x)

/-- Device `c` holds a result whose first `n` quarters are those of `g`. -/
def holdsOut (c : Dev nD) (g : Fin 4 → S256x2048.Idx → Elt F .f32) (n : ℕ) : sProp 𝕄 :=
  iprop(∃ f : S256x8192.Idx → Elt F .f32, ⌜∀ x : S256x8192.Idx, (x 1).val < n * 2048 → f x = outOf g x⌝
    ∗ (((c : Thread nD τ).loc cc0_stg2_0) ↦{fullShare} (f : Buf (Elt F) ((c : Thread nD τ).loc cc0_stg2_0))))

/-- Writing the next quarter. -/
theorem quarter_written (g : Fin 4 → S256x2048.Idx → Elt F .f32) (i : Fin 4) (f : S256x8192.Idx → Elt F .f32)
    (hf : ∀ x : S256x8192.Idx, (x 1).val < i.val * 2048 → f x = outOf g x) (x : S256x8192.Idx) (hx : (x 1).val < (i.val + 1) * 2048) :
    updateSlice f (g i) ![0, i.val * 2048] ⟨rfl, cols_inb i⟩ x = outOf g x := by
  unfold updateSlice
  split
  · next hin =>
    have h1 := hin 1
    have h1' : i.val * 2048 ≤ (x 1).val ∧ (x 1).val < i.val * 2048 + 2048 := h1
    have hq : quarterOf x = i := Fin.ext (by show (x 1).val / 2048 = i.val; omega)
    unfold outOf
    rw [hq]
    refine congrArg (g i) (funext fun a => Fin.ext ?_)
    fin_cases a
    · have h0 : (x 0).val < 256 := (x 0).isLt
      show (x 0).val - 0 = (x 0).val % 256
      omega
    · show (x 1).val - i.val * 2048 = (x 1).val % 2048
      omega
  · next hout =>
    refine hf x ?_
    by_contra hn
    refine hout fun a => ?_
    fin_cases a
    · have h0 : (x 0).val < 256 := (x 0).isLt
      exact ⟨Nat.zero_le _, by show (x 0).val < 0 + 256; omega⟩
    · exact ⟨by show i.val * 2048 ≤ (x 1).val; omega, by show (x 1).val < i.val * 2048 + 2048; omega⟩

theorem op_storeO (c : Dev nD) (i : Fin 4) (g : Fin 4 → S256x2048.Idx → Elt F .f32) (k : P F) (Q : PUnit → sProp 𝕄) :
    holdsOut c g i.val ⊢ iprop((holdsOut c g (i.val + 1) -∗ runs c k Q) -∗ runs c (storeO i (g i) k) Q) := by
  unfold holdsOut storeO
  iintro ⟨%f, %hf, H⟩ Hk
  iapply (wp_load_rect 𝒱₀ (c : Thread nD τ) none Set.univ (m := Memref.whole cc0_stg2_0) (Finset.subset_univ _)) $$ [H]
  · iexact H
  iintro H
  iapply (wp_store 𝒱₀ (c : Thread nD τ) none Set.univ (m := Memref.whole cc0_stg2_0) (Mk := Finset.univ) (Finset.subset_univ _)) $$ [H]
  · iexact H
  iintro H
  iapply Hk
  iexists updateSlice f (g i) ![0, i.val * 2048] ⟨rfl, cols_inb i⟩
  isplitr [H]
  · ipureintro; exact quarter_written g i f hf
  · rw [← View.write_whole_slice_unit (Val := Elt F) cc0_stg2_0 ![0, i.val * 2048] S256x2048.size (cols_inb i) f (g i)]
    iexact H

/-! ## The barrier -/

/-- Signalling a neighbour's barrier hands over the slots it will send into. -/
theorem op_signalBar (c d : Dev nD) (n : ℕ) (hn : n < 2) (x : Due) (l : List Due)
    (hx : owesL (x :: l) c = owesL l c + tallyAt (barCell d) 1 1) (k : P F) (Q : PUnit → sProp 𝕄) :
    iprop(known X W K J ∗ due c (x :: l) ∗ dutyTok ER (barCell d) 0 n ∗ barPay d n)
      ⊢ iprop((due c l -∗ runs c k Q) -∗ runs c (signalS d barrier0 k) Q) := by
  unfold due signalS
  iintro ⟨#HK, ⟨%B, HO⟩, Ht, Hf⟩ Hk
  ihave ⟨#Hi, #Hr⟩ := (known_cell X W K J (mem_cells d ⟨28, semOf_bar⟩)) $$ HK
  iapply (Rounds.wp_signal 𝒱₀ ER (Rd X W) (c : Thread nD τ) none (dst := (d : Thread nD τ)) (κ := K (barCell d))
      (r := 0) (d := n) (k' := 1)
      (by rw [duties_bar]; simp only [Finset.mem_insert, Finset.mem_singleton]; omega) (amount_bar X W d 0 n) 1 (owesL l c) hx) $$ [HO Ht Hf]
  · isplitr; · iexact Hi
    isplitl [HO]; · iexact HO
    isplitl [Ht]; · iexact Ht
    isplitl [Hf]
    · rw [payload_bar]; iexact Hf
    · iexact Hr
  iintro HO
  iapply Hk
  iexists _; iexact HO

theorem rest_bar (c : Dev nD) : bigSep ((Rd X W).duties (barCell c) 0 \ ∅) (fun u => (Rd X W).payload (barCell c) 0 u)
    = iprop(barPay c 0 ∗ barPay c 1) := by
  rw [Finset.sdiff_empty, duties_bar X W c, bigSep_insert (by decide), bigSep_singleton, payload_bar, payload_bar]
  rfl

/-- Both neighbours' signals hand over the slots this device sends into. -/
theorem op_waitBar (c : Dev nD) (l : List Due) (hl : Above 1 l) (k : P F) (Q : PUnit → sProp 𝕄) :
    iprop(known X W K J ∗ due c l ∗ cred (tallyAt (barCell c) 1 2) ∗ atPos ER (barCell c) 0 ∅ 0)
      ⊢ iprop(((due c l ∗ atPos ER (barCell c) 1 ∅ 0 ∗ bigSep Finset.univ (lent c)) -∗ runs c k Q) -∗ runs c (waitR barrier0 2#32 k) Q) := by
  unfold due waitR
  iintro ⟨#HK, ⟨%B, HO⟩, Hc, Hat⟩ Hk
  ihave ⟨#Hi, -⟩ := (known_cell X W K J (mem_cells c ⟨28, semOf_bar⟩)) $$ HK
  iapply (Rounds.wp_wait_rest_token 𝒱₀ ER (Rd X W) (c : Thread nD τ) none (κ := K (barCell c)) (k' := 2)
      (wpE_semWait_eq 𝒱₀ (c : Thread nD τ) none Set.univ) (Set.mem_univ _) 1
      (O := owesL l c) (W := B) (R := 0) (m := 0) (T := ∅) (by rw [expect_bar])) $$ [Hc HO Hat]
  · isplitr; · iexact Hi
    isplitl [Hc]; · iexact Hc
    isplitl [HO]; · iexact HO
    isplitr
    · iapply (known_wait X W K J c barLoc 1 l (by decide) hl); iexact HK
    iexact Hat
  iintro ⟨HO, Hat, -, Hpay⟩
  ihave ⟨Hp0, Hp1⟩ := (Entails.of_eq (rest_bar X W c)) $$ Hpay
  iapply Hk
  isplitl [HO]; · iexists _; iexact HO
  isplitl [Hat]; · iexact Hat
  iapply (show iprop(lent c 0 ∗ lent c 1 ∗ lent c 2 ∗ lent c 3) ⊢ (bigSep Finset.univ (lent c) : sProp 𝕄) from
    Entails.of_eq (bigSep_univ_eq_bigSepL [(0 : Fin 4), 1, 2, 3] (by decide) (by decide) _).symm)
  ihave ⟨H0, H1⟩ := (show barPay c 0 ⊢ (iprop(lent c 0 ∗ lent c 1) : sProp 𝕄) from Entails.of_eq (if_pos rfl)) $$ Hp0
  ihave ⟨H2, H3⟩ := (show barPay c 1 ⊢ (iprop(lent c 2 ∗ lent c 3) : sProp 𝕄) from Entails.of_eq (if_neg (by decide))) $$ Hp1
  isplitl [H0]; · iexact H0
  isplitl [H1]; · iexact H1
  isplitl [H2] <;> iassumption

end Cert.Proof

end
-- ==== Proof.Hop.lean ====
/-
  The steps of one ring: what a device holds of a ring between two steps, and what each step does with it.
-/
module

public import proofs.«01_k».proof.Proof.Blocks

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

variable (X : Dev nD → S4096x256.Idx → Elt F .bf16) (W : Dev nD → S256x8192.Idx → Elt F .bf16)
variable (K : GSem nD τ sig → ℕ) (J : Key → ℕ)

/-! ## What a device holds of a ring -/

/-- Its send semaphore stands before message `m`, -/
def sendPos (c : Dev nD) (i : Fin 4) (m : ℕ) : sProp 𝕄 := pos (sendCell c i (sl m)) (m / 3)

/-- its receive semaphore before message `m`, -/
def recvPos (c : Dev nD) (i : Fin 4) (m : ℕ) : sProp 𝕄 := pos (recvCell c i (sl (m + 1))) (m / 3)

/-- message `m` is on its way out, -/
def sendCred (c : Dev nD) (i : Fin 4) (m : ℕ) : sProp 𝕄 := cred (tallyAt (sendCell c i (sl m)) 0 N)

/-- and message `m` will come in, -/
def recvCred (c : Dev nD) (i : Fin 4) (m : ℕ) : sProp 𝕄 := cred (tallyAt (recvCell c i (sl (m + 1))) (lr m i) N)

/-- as will the credit of step `h`. -/
def credCred (c : Dev nD) (i : Fin 4) (h : ℕ) : sProp 𝕄 := cred (tallyAt (credCell c i) (lc h i) 1)

/-- It may send message `m` once. -/
def sendTok (c : Dev nD) (i : Fin 4) (m : ℕ) : sProp 𝕄 :=
  iprop(dutyTok ER (sendCell c i (sl m)) (m / 3) 0 ∗ dutyTok ER (recvCell (dnDev c i) i (sl (m + 1))) (m / 3) 0)

/-- It may hand up its slot, and take the lower neighbour's, once at step `h`. -/
def handTok (c : Dev nD) (i : Fin 4) (h : ℕ) : sProp 𝕄 :=
  iprop(dutyTok ER (credCell (upDev c i) i) 0 h ∗ Release.writeTok ES (dnDev c i, i, h) 1 ∗ Release.readerAt ES (c, i, h) 0)

omit [FloatOps F] in
theorem sl_three (m : ℕ) : sl (m + 3) = sl m := Fin.ext (Nat.add_mod_right m 3)

omit [FloatOps F] in
theorem sendPos_next (c : Dev nD) (i : Fin 4) (m : ℕ) : pos (sendCell c i (sl m)) (m / 3 + 1) ⊢ (sendPos c i (m + 3) : sProp 𝕄) := by
  unfold sendPos; rw [sl_three, Nat.add_div_right m (by decide)]

omit [FloatOps F] in
theorem recvPos_next (c : Dev nD) (i : Fin 4) (m : ℕ) :
    pos (recvCell c i (sl (m + 1))) (m / 3 + 1) ⊢ (recvPos c i (m + 3) : sProp 𝕄) := by
  unfold recvPos; rw [show m + 3 + 1 = m + 1 + 3 from rfl, sl_three, Nat.add_div_right m (by decide)]

omit [FloatOps F] in
theorem sendPos_reached (c : Dev nD) (i : Fin 4) (m : ℕ) :
    sendPos c i m ⊢ (iprop(sendPos c i m ∗ reached ER (sendCell c i (sl m)) (m / 3)) : sProp 𝕄) := by
  unfold sendPos pos
  iintro ⟨H, #Hr⟩
  isplitl [H]
  · isplitl [H]; · iexact H
    iexact Hr
  · iexact Hr

omit [FloatOps F] in
theorem recvPos_reached (c : Dev nD) (i : Fin 4) (m : ℕ) :
    recvPos c i m ⊢ (iprop(recvPos c i m ∗ reached ER (recvCell c i (sl (m + 1))) (m / 3)) : sProp 𝕄) := by
  unfold recvPos pos
  iintro ⟨H, #Hr⟩
  isplitl [H]
  · isplitl [H]; · iexact H
    iexact Hr
  · iexact Hr

omit [FloatOps F] in
theorem sendPos_pos (c : Dev nD) (i : Fin 4) (m : ℕ) : sendPos c i m ⊢ (pos (sendCell c i (sl m)) (m / 3) : sProp 𝕄) := BI.Entails.refl _
omit [FloatOps F] in
theorem recvPos_pos (c : Dev nD) (i : Fin 4) (m : ℕ) : recvPos c i m ⊢ (pos (recvCell c i (sl (m + 1))) (m / 3) : sProp 𝕄) :=
  BI.Entails.refl _

/-- Between steps `k` and `k + 1`. -/
def ringAt (c : Dev nD) (i : Fin 4) (k : ℕ) : sProp 𝕄 :=
  iprop((sendPos c i k ∗ sendPos c i (k + 1) ∗ sendPos c i (k + 2)) ∗ (recvPos c i (k + 1) ∗ recvPos c i (k + 2) ∗ recvPos c i (k + 3))
    ∗ (sendCred c i k ∗ sendCred c i (k + 1)) ∗ posC c i k ∗ facts c i k)

/-- What step `h` uses up. -/
def stepRes (c : Dev nD) (i : Fin 4) (h : ℕ) : sProp 𝕄 :=
  iprop(sendTok c i (h + 1) ∗ handTok c i h ∗ recvCred c i h ∗ credCred c i h)

/-- Receiving message `h`, adding the own part, and storing the sum: the slot holds message `h + 1`. -/
theorem op_recvAdd (c : Dev nD) (i : Fin 4) (h : ℕ) (l : List Due) (hh : h ≤ 14) (hl : Above (lr h i) l) (k : P F) (Q : PUnit → sProp 𝕄) :
    iprop(known X W K J ∗ due c l ∗ recvCred c i h ∗ recvPos c i h)
      ⊢ iprop(((due c l ∗ recvPos c i (h + 3) ∗ slotAt c i (sl (h + 1)) (sent X W i (h + 1) c)) -∗ runs c k Q)
          -∗ runs c (recvAdd h i (ownPart X W c i h) k) Q) := by
  have hn : lr h i < 200 := by have := i.isLt; unfold lr; omega
  unfold recvAdd recvCred
  iintro ⟨#HK, HO, Hc, Hp⟩ Hk
  iapply (op_recv X W K J c i (sl (h + 1)) (sl (h + 2)) (h / 3) (lr h i) l (by omega) hn hl) $$ [HO Hc Hp]
  · isplitr; · iexact HK
    isplitl [HO]; · iexact HO
    isplitl [Hc]; · iexact Hc
    iapply (recvPos_pos c i h); iexact Hp
  rw [msg_sl]
  iintro ⟨HO, Hp, Hs⟩
  iapply (op_load c i (sl (h + 1)) (sent X W i h (upDev c i))) $$ Hs
  iintro %b %hb Hs
  iapply (op_load c i (sl (h + 1)) (sent X W i h (upDev c i))) $$ Hs
  iintro %b' - Hs
  ihave Hs := (slotAt_any c i (sl (h + 1)) _) $$ Hs
  iapply (op_store c i (sl (h + 1))) $$ Hs
  iintro Hs
  iapply Hk
  isplitl [HO]; · iexact HO
  isplitl [Hp]; · iapply (recvPos_next c i h); iexact Hp
  rw [show truncf .bf16 (accOf b (ownPart X W c i h)) bitsLt_bf16_f32 = sent X W i (h + 1) c from by
    unfold accOf; rw [hb]; rfl]
  iexact Hs

/-- A send is done: its slot is back. -/
theorem op_sendDone (c : Dev nD) (i : Fin 4) (m : ℕ) (s' : Fin 3) (l : List Due) (hm : m ≤ 14) (hl : Above 0 l) (k : P F) (Q : PUnit → sProp 𝕄) :
    iprop(known X W K J ∗ due c l ∗ sendCred c i m ∗ sendPos c i m)
      ⊢ iprop(((due c l ∗ sendPos c i (m + 3) ∗ slotAny c i (sl m)) -∗ runs c k Q) -∗ runs c (waitS i (sendSems i) (sl m) s' k) Q) := by
  unfold sendCred
  iintro ⟨#HK, HO, Hc, Hp⟩ Hk
  iapply (op_waitSend X W K J c i (sl m) s' (m / 3) l (by omega) hl) $$ [HO Hc Hp]
  · isplitr; · iexact HK
    isplitl [HO]; · iexact HO
    isplitl [Hc]; · iexact Hc
    iapply (sendPos_pos c i m); iexact Hp
  iintro ⟨HO, Hp, Hs⟩
  iapply Hk
  isplitl [HO]; · iexact HO
  isplitl [Hp]; · iapply (sendPos_next c i m); iexact Hp
  iexact Hs

/-- Sending message `m` into a slot known to be free and ready. -/
theorem op_sendNext (c : Dev nD) (i : Fin 4) (m : ℕ) (l : List Due) (hm : m ≤ 14) (k : P F) (Q : PUnit → sProp 𝕄) :
    iprop(known X W K J ∗ due c (dueSend i m :: l) ∗ slotAt c i (sl m) (sent X W i m c) ∗ slotAny (dnDev c i) i (sl (m + 1))
        ∗ sendTok c i m ∗ sendPos c i m ∗ reached ER (recvCell (dnDev c i) i (sl (m + 1))) (m / 3))
      ⊢ iprop(((due c l ∗ sendCred c i m ∗ sendPos c i m) -∗ runs c k Q) -∗ runs c (sendS c i (sl m) (sl (m + 1)) k) Q) := by
  unfold sendTok sendCred
  iintro ⟨#HK, HO, Hs, Hd, ⟨Ht1, Ht2⟩, Hp, Hr⟩ Hk
  ihave ⟨Hp, Hr1⟩ := (sendPos_reached c i m) $$ Hp
  iapply (op_send X W K J c i m l hm) $$ [HO Hs Hd Ht1 Ht2 Hr Hr1]
  · isplitr; · iexact HK
    isplitl [HO]; · iexact HO
    isplitl [Hs]; · iexact Hs
    isplitl [Hd]; · iexact Hd
    isplitl [Ht1]; · iexact Ht1
    isplitl [Hr1]; · iexact Hr1
    isplitl [Ht2]; · iexact Ht2
    iexact Hr
  iintro ⟨HO, Hc⟩
  iapply Hk
  isplitl [HO]; · iexact HO
  isplitl [Hc] <;> iassumption

/-! ## The steps -/

theorem slot_nonempty (i : Fin 4) (s : Fin 3) : (slotM i s).view.set.Nonempty :=
  View.set_nonempty (by decide)

/-- Handing up the own slot after step `k`'s send is done. -/
theorem slot_up (c : Dev nD) (i : Fin 4) (k : ℕ) (hk : k ≤ 12) :
    iprop(known X W K J ∗ slotAny c i (sl k) ∗ recvPos c i (k + 2) ∗ facts c i k ∗ Release.readerAt ES (c, i, k + 1) 0)
      ⊢ |={Set.univ}=> iprop(recvPos c i (k + 2) ∗ facts c i (k + 1)) := by
  iintro ⟨#HK, Hs, Hp, #Hf, Hr⟩
  ihave #Hi := (known_key X W K J (mem_keys (c := c) (i := i) (h := k + 1) (by omega) (by omega))) $$ HK
  ihave ⟨Hp, #Hrc⟩ := (recvPos_reached c i (k + 2)) $$ Hp
  imod (Release.slot_release (E := ES) (ι := J (c, i, k + 1)) (Es := Set.univ) (Set.mem_univ _)
    (S := keySlot (c, i, k + 1)) (by unfold keySlot slotAny; exact Release.slot_slot_false (slot_nonempty _ _)) 0) $$ [Hr Hs] with ⟨-, #Hrel⟩
  · isplitr; · iexact Hi
    isplitl [Hr]; · iexact Hr
    unfold keySlot
    rw [show sl ((c, i, k + 1).2.2 + 2) = sl k from sl_three k]
    iexact Hs
  imodintro
  isplitl [Hp]; · iexact Hp
  iapply (facts_succ c i k)
  isplitr
  · unfold fact
    isplitl
    · iexact Hrel
    · iexact Hrc
  · iexact Hf

/-- Taking the lower neighbour's slot once its credit of step `h` is here. -/
theorem slot_down (c : Dev nD) (i : Fin 4) (h : ℕ) (h1 : 1 ≤ h) (h2 : h ≤ 13) :
    iprop(known X W K J ∗ fact (dnDev c i) i h ∗ Release.writeTok ES (dnDev c i, i, h) 1)
      ⊢ |={Set.univ}=> (slotAny (dnDev c i) i (sl (h + 2)) : sProp 𝕄) := by
  iintro ⟨#HK, Hf, Ht⟩
  ihave #Hi := (known_key X W K J (mem_keys (c := dnDev c i) (i := i) h1 h2)) $$ HK
  unfold fact
  icases Hf with ⟨Hf, -⟩
  iapply (Release.slot_take (E := ES) (ι := J (dnDev c i, i, h)) (Es := Set.univ) (Set.mem_univ _) (S := keySlot (dnDev c i, i, h)) 1)
  isplitr; · iexact Hi
  isplitl [Hf] <;> iassumption

/-- Step 0. -/
theorem op_ringFirst (c : Dev nD) (i : Fin 4) (a b : FVec F S256x4096 .f32) (l : List Due)
    (hp : ringPart (e := .f32) a b i = ownPart X W c i 0) (hl : Above (lr 0 i) (dueSend i 1 :: l)) (k : P F) (Q : PUnit → sProp 𝕄) :
    iprop(known X W K J ∗ due c (dueSend i 1 :: l)
        ∗ ((sendPos c i 0 ∗ sendPos c i 1 ∗ sendPos c i 2) ∗ (recvPos c i 0 ∗ recvPos c i 1 ∗ recvPos c i 2) ∗ sendCred c i 0 ∗ posC c i 0
          ∗ slotAny (dnDev c i) i 2) ∗ (sendTok c i 1 ∗ recvCred c i 0))
      ⊢ iprop(((due c l ∗ ringAt c i 0) -∗ runs c k Q) -∗ runs c (ringFirst c a b i k) Q) := by
  unfold ringFirst ringAt
  rw [hp]
  iintro ⟨#HK, HO, ⟨⟨Hs0, Hs1, Hs2⟩, ⟨Hr0, Hr1, Hr2⟩, Hc0, HC, Hd⟩, Ht, Hcr⟩ Hk
  iapply (op_recvAdd X W K J c i 0 _ (by decide) hl) $$ [HO Hr0 Hcr]
  · isplitr; · iexact HK
    isplitl [HO]; · iexact HO
    isplitl [Hcr] <;> iassumption
  iintro ⟨HO, Hr3, Hslot⟩
  ihave ⟨-, #Hrd⟩ := (known_cell X W K J (mem_cells (dnDev c i) (semOf_recv i (sl 2)))) $$ HK
  iapply (op_sendNext X W K J c i 1 l (by decide)) $$ [HO Hslot Hd Ht Hs1]
  · isplitr; · iexact HK
    isplitl [HO]; · iexact HO
    isplitl [Hslot]; · iexact Hslot
    isplitl [Hd]; · iexact Hd
    isplitl [Ht]; · iexact Ht
    isplitl [Hs1]; · iexact Hs1
    iexact Hrd
  iintro ⟨HO, Hc1, Hs1⟩
  iapply Hk
  isplitl [HO]; · iexact HO
  isplitl [Hs0 Hs1 Hs2]
  · isplitl [Hs0]; · iexact Hs0
    isplitl [Hs1] <;> iassumption
  isplitl [Hr1 Hr2 Hr3]
  · isplitl [Hr1]; · iexact Hr1
    isplitl [Hr2] <;> iassumption
  isplitl [Hc0 Hc1]
  · isplitl [Hc0] <;> iassumption
  isplitl [HC]; · iexact HC
  iapply (facts_zero c i)
  iempintro

/-- Step `n + 1`, `n ≤ 12`. -/
theorem op_ringMid (c : Dev nD) (i : Fin 4) (n : ℕ) (a b : FVec F S256x4096 .f32) (l : List Due) (hn : n ≤ 12)
    (hp : ringPart (e := .f32) a b i = ownPart X W c i (n + 1)) (hl : Above (lc (n + 1) i) l) (k : P F) (Q : PUnit → sProp 𝕄) :
    iprop(known X W K J ∗ due c (duesRing (n + 1) i l) ∗ ringAt c i n ∗ stepRes c i (n + 1))
      ⊢ iprop(((due c l ∗ ringAt c i (n + 1)) -∗ runs c k Q) -∗ runs c (ringMid c (n + 1) a b i k) Q) := by
  have hl1 : Above (lc (n + 1) i) (dueSend i (n + 1 + 1) :: l) :=
    .cons (by have := i.isLt; simp only [dueSend, lr, lc]; omega) hl
  have hl2 : Above (lr (n + 1) i) (dueSend i (n + 1 + 1) :: l) := hl1.mono (by unfold lr lc; omega)
  have hl0 : Above 0 (duesRing (n + 1) i l) := above_ring (by omega) (by omega) (hl.mono (by omega))
  unfold ringMid ringAt stepRes handTok credCred
  rw [hp, show sl (n + 1 + 2) = sl n from sl_three n]
  iintro ⟨#HK, HO, ⟨⟨Hs0, Hs1, Hs2⟩, ⟨Hr0, Hr1, Hr2⟩, ⟨Hc0, Hc1⟩, HC, Hf⟩, Hst, ⟨Hct, Hwt, Hrt⟩, Hrc, Hcc⟩ Hk
  iapply (op_sendDone X W K J c i n (sl (n + 1)) _ (by omega) hl0) $$ [HO Hc0 Hs0]
  · isplitr; · iexact HK
    isplitl [HO]; · iexact HO
    isplitl [Hc0] <;> iassumption
  iintro ⟨HO, Hs3, Hslot⟩
  unfold duesRing
  imod (slot_up X W K J c i n hn) $$ [Hslot Hr1 Hf Hrt] with ⟨Hr1, #Hf⟩
  · isplitr; · iexact HK
    isplitl [Hslot]; · iexact Hslot
    isplitl [Hr1]; · iexact Hr1
    isplitl [Hf] <;> iassumption
  iapply (op_credit X W K J c i (n + 1) _ (by omega) (by omega)) $$ [HO Hct]
  · isplitr; · iexact HK
    isplitl [HO]; · iexact HO
    isplitl [Hct]; · iexact Hct
    iexact Hf
  iintro HO
  iapply (op_recvAdd X W K J c i (n + 1) _ (by omega) hl2) $$ [HO Hr0 Hrc]
  · isplitr; · iexact HK
    isplitl [HO]; · iexact HO
    isplitl [Hrc] <;> iassumption
  iintro ⟨HO, Hr3, Hslot⟩
  iapply (op_waitCredit X W K J c i (n + 1) _ (by omega) (by omega) hl1) $$ [HO Hcc HC]
  · isplitr; · iexact HK
    isplitl [HO]; · iexact HO
    isplitl [Hcc]; · iexact Hcc
    iapply (show (posC c i n : sProp 𝕄) ⊢ posC c i (n + 1 - 1) from BI.Entails.refl _); iexact HC
  iintro ⟨HO, HC, #Hfd⟩
  imod (slot_down X W K J c i (n + 1) (by omega) (by omega)) $$ [Hwt] with Hd
  · isplitr; · iexact HK
    isplitr; · iexact Hfd
    iexact Hwt
  unfold fact
  icases Hfd with ⟨-, #Hrd⟩
  rw [← show sl (n + 1 + 2) = sl n from sl_three n]
  iapply (op_sendNext X W K J c i (n + 1 + 1) l (by omega)) $$ [HO Hslot Hd Hst Hs2]
  · isplitr; · iexact HK
    isplitl [HO]; · iexact HO
    isplitl [Hslot]; · iexact Hslot
    isplitl [Hd]; · iexact Hd
    isplitl [Hst]; · iexact Hst
    isplitl [Hs2]; · iexact Hs2
    iexact Hrd
  iintro ⟨HO, Hc2, Hs2⟩
  iapply Hk
  isplitl [HO]; · iexact HO
  isplitl [Hs1 Hs2 Hs3]
  · isplitl [Hs1]; · iexact Hs1
    isplitl [Hs2] <;> iassumption
  isplitl [Hr1 Hr2 Hr3]
  · isplitl [Hr1]; · iexact Hr1
    isplitl [Hr2] <;> iassumption
  isplitl [Hc1 Hc2]
  · isplitl [Hc1] <;> iassumption
  isplitl [HC]; · iexact HC
  iexact Hf

/-- What is left of a ring after the last step, before its last send is done. -/
def ringLastAt (c : Dev nD) (i : Fin 4) : sProp 𝕄 :=
  iprop((sendPos c i 14 ∗ sendPos c i 15 ∗ sendPos c i 16) ∗ (recvPos c i 15 ∗ recvPos c i 16 ∗ recvPos c i 17)
    ∗ sendCred c i 14 ∗ posC c i 13 ∗ slotAny c i 0 ∗ slotAny c i 1)

/-- The last step. -/
theorem op_ringLast (c : Dev nD) (i : Fin 4) (a b : FVec F S256x4096 .f32)
    (hp : ringPart (e := .f32) a b i = ownPart X W c i 14) (k : P F) (Q : PUnit → sProp 𝕄) :
    iprop(known X W K J ∗ due c [] ∗ holdsOut c (result X W c) i.val ∗ ringAt c i 13 ∗ recvCred c i 14)
      ⊢ iprop(((due c [] ∗ holdsOut c (result X W c) (i.val + 1) ∗ ringLastAt c i) -∗ runs c k Q) -∗ runs c (ringLast a b i k) Q) := by
  unfold ringLast ringAt ringLastAt recvCred
  rw [hp]
  iintro ⟨#HK, HO, HU, ⟨⟨Hs0, Hs1, Hs2⟩, ⟨Hr0, Hr1, Hr2⟩, ⟨Hc0, Hc1⟩, HC, -⟩, Hrc⟩ Hk
  iapply (op_sendDone X W K J c i 13 (sl 2) _ (by decide) (.nil 0)) $$ [HO Hc0 Hs0]
  · isplitr; · iexact HK
    isplitl [HO]; · iexact HO
    isplitl [Hc0] <;> iassumption
  iintro ⟨HO, Hs3, Hslot1⟩
  iapply (op_recv X W K J c i (sl 0) (sl 1) 4 (lr 14 i) [] (by decide) (by have := i.isLt; unfold lr; omega) (.nil _)) $$ [HO Hrc Hr0]
  · isplitr; · iexact HK
    isplitl [HO]; · iexact HO
    isplitl [Hrc]; · iexact Hrc
    iapply (recvPos_pos c i 14); iexact Hr0
  rw [show msg 4 (sl 0) = 14 from rfl]
  iintro ⟨HO, Hr3, Hs⟩
  iapply (op_load c i (sl 0) (sent X W i 14 (upDev c i))) $$ Hs
  iintro %v %hv Hs
  ihave Hs := (slotAt_any c i (sl 0) _) $$ Hs
  rw [show geluOf (accOf v (ownPart X W c i 14)) = result X W c i from by unfold accOf; rw [hv]; rfl]
  iapply (op_storeO c i (result X W c)) $$ HU
  iintro HU
  iapply Hk
  isplitl [HO]; · iexact HO
  isplitl [HU]; · iexact HU
  isplitl [Hs1 Hs2 Hs3]
  · isplitl [Hs1]; · iexact Hs1
    isplitl [Hs2] <;> iassumption
  isplitl [Hr1 Hr2 Hr3]
  · isplitl [Hr1]; · iexact Hr1
    isplitl [Hr2]; · iexact Hr2
    iapply (recvPos_next c i 14); iexact Hr3
  isplitl [Hc1]; · iexact Hc1
  isplitl [HC]; · iexact HC
  isplitl [Hs]; · iexact Hs
  iexact Hslot1

end Cert.Proof

end
-- ==== Proof.Body.lean ====
/-
  The whole body on one device: the barrier, the first messages, the fifteen steps of the four rings, and the end, where every
  semaphore is back at zero.
-/
module

public import proofs.«01_k».proof.Proof.Hop
public import Idealize.ShloMosaic.Lib.Ring

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

variable (X : Dev nD → S4096x256.Idx → Elt F .bf16) (W : Dev nD → S256x8192.Idx → Elt F .bf16)
variable (K : GSem nD τ sig → ℕ) (J : Key → ℕ)

/-! ## The four rings together -/

/-- Something for each of the four rings. -/
abbrev each (A : Fin 4 → sProp 𝕄) : sProp 𝕄 := bigSep Finset.univ A

omit [FloatOps F] in
theorem each_eq (A : Fin 4 → sProp 𝕄) : each A = iprop(A 0 ∗ A 1 ∗ A 2 ∗ A 3) :=
  bigSep_univ_eq_bigSepL [(0 : Fin 4), 1, 2, 3] (by decide) (by decide) A

omit [FloatOps F] in
theorem each_mono {A B : Fin 4 → sProp 𝕄} (h : ∀ i, A i ⊢ B i) : each A ⊢ each B := bigSep_mono fun i _ => h i

omit [FloatOps F] in
theorem each_zip (A B : Fin 4 → sProp 𝕄) : iprop(each A ∗ each B) ⊢ each (fun i => iprop(A i ∗ B i)) :=
  Entails.of_eq (bigSep_sep' _ _ _).symm

omit [FloatOps F] in
theorem each_unzip (A B : Fin 4 → sProp 𝕄) : each (fun i => iprop(A i ∗ B i)) ⊢ iprop(each A ∗ each B) :=
  Entails.of_eq (bigSep_sep' _ _ _)

/-- A piece of program run for each ring in turn. -/
theorem rings_rule (c : Dev nD) (R : sProp 𝕄) [BI.Persistent R] (St : ℕ → sProp 𝕄) (A B : Fin 4 → sProp 𝕄) (f : Fin 4 → P F → P F)
    (h : ∀ (i : Fin 4) (k : P F) (Q : PUnit → sProp 𝕄),
      iprop(R ∗ St i.val ∗ A i) ⊢ iprop(((St (i.val + 1) ∗ B i) -∗ runs c k Q) -∗ runs c (f i k) Q))
    (k : P F) (Q : PUnit → sProp 𝕄) :
    iprop(R ∗ St 0 ∗ each A) ⊢ iprop(((St 4 ∗ each B) -∗ runs c k Q) -∗ runs c (rings f k) Q) := by
  rw [each_eq, each_eq]
  unfold rings
  have h0 (k : P F) (Q : PUnit → sProp 𝕄) : iprop(R ∗ St 0 ∗ A 0) ⊢ iprop(((St 1 ∗ B 0) -∗ runs c k Q) -∗ runs c (f 0 k) Q) := h 0 k Q
  have h1 (k : P F) (Q : PUnit → sProp 𝕄) : iprop(R ∗ St 1 ∗ A 1) ⊢ iprop(((St 2 ∗ B 1) -∗ runs c k Q) -∗ runs c (f 1 k) Q) := h 1 k Q
  have h2 (k : P F) (Q : PUnit → sProp 𝕄) : iprop(R ∗ St 2 ∗ A 2) ⊢ iprop(((St 3 ∗ B 2) -∗ runs c k Q) -∗ runs c (f 2 k) Q) := h 2 k Q
  have h3 (k : P F) (Q : PUnit → sProp 𝕄) : iprop(R ∗ St 3 ∗ A 3) ⊢ iprop(((St 4 ∗ B 3) -∗ runs c k Q) -∗ runs c (f 3 k) Q) := h 3 k Q
  iintro ⟨#HR, HS, H0, H1, H2, H3⟩ Hk
  iapply (h0 _ _) $$ [HS H0]
  · isplitr; · iexact HR
    isplitl [HS] <;> iassumption
  iintro ⟨HS, H0⟩
  iapply (h1 _ _) $$ [HS H1]
  · isplitr; · iexact HR
    isplitl [HS] <;> iassumption
  iintro ⟨HS, H1⟩
  iapply (h2 _ _) $$ [HS H2]
  · isplitr; · iexact HR
    isplitl [HS] <;> iassumption
  iintro ⟨HS, H2⟩
  iapply (h3 _ _) $$ [HS H3]
  · isplitr; · iexact HR
    isplitl [HS] <;> iassumption
  iintro ⟨HS, H3⟩
  iapply Hk
  isplitl [HS]; · iexact HS
  isplitl [H0]; · iexact H0
  isplitl [H1]; · iexact H1
  isplitl [H2] <;> iassumption

/-! ## What a device starts from -/

/-- The semaphores of a ring before anything happens. -/
def ringInit (c : Dev nD) (i : Fin 4) : sProp 𝕄 :=
  iprop((sendPos c i 0 ∗ sendPos c i 1 ∗ sendPos c i 2) ∗ (recvPos c i 0 ∗ recvPos c i 1 ∗ recvPos c i 2) ∗ posC c i 0)

/-- The tokens and credits outside the middle steps. -/
def firstTok (c : Dev nD) (i : Fin 4) : sProp 𝕄 :=
  iprop((sendTok c i 0 ∗ sendTok c i 1) ∗ (recvCred c i 0 ∗ recvCred c i 14))

/-- Those of the middle steps. -/
def midRes (c : Dev nD) : sProp 𝕄 := bigSep (Finset.Ico 1 14) fun h => each fun i => stepRes c i h

/-- What the barrier takes. -/
def barRes (c : Dev nD) : sProp 𝕄 :=
  iprop(atPos ER (barCell c) 0 ∅ 0 ∗ dutyTok ER (barCell (leftDev c)) 0 0 ∗ dutyTok ER (barCell (rightDev c)) 0 1
    ∗ cred (tallyAt (barCell c) 1 2))

/-- A ring's two further slots, which its upper neighbour will send into. -/
def pair (c : Dev nD) (i : Fin 4) : sProp 𝕄 := iprop(slotAny c i 1 ∗ slotAny c i 2)

/-- A ring's three slots. -/
def slots (c : Dev nD) (i : Fin 4) : sProp 𝕄 := iprop(slotAny c i 0 ∗ pair c i)

/-! ## The phases -/

/-- Filling the first slots. -/
theorem phase_fill (c : Dev nD) (A : Fin 4 → sProp 𝕄) (k : P F) (Q : PUnit → sProp 𝕄) :
    each (fun i => iprop(slotAny c i 0 ∗ A i))
      ⊢ iprop((each (fun i => iprop(slotAt c i 0 (firstPart X W c i) ∗ A i)) -∗ runs c k Q)
        -∗ runs c (rings (fill (prodOf X W c (firstOff c) (firstOff_inb c) 0) (prodOf X W c (firstOff c) (firstOff_inb c) 1)) k) Q) := by
  iintro H Hk
  iapply (rings_rule c iprop(emp) (fun _ => iprop(emp)) (fun i => iprop(slotAny c i 0 ∗ A i))
    (fun i => iprop(slotAt c i 0 (firstPart X W c i) ∗ A i)) (fill _ _) (fun i k Q => by
      unfold fill
      iintro ⟨-, -, Hs, HA⟩ Hk
      ihave ⟨%v, Hs⟩ := (slotAny_at c i 0) $$ Hs
      iapply (op_load c i 0 v) $$ Hs
      iintro %b - Hs
      ihave Hs := (slotAt_any c i 0 _) $$ Hs
      iapply (op_store c i 0) $$ Hs
      iintro Hs
      iapply Hk
      isplitr; · iempintro
      isplitl [Hs]; · iexact Hs
      iexact HA)) $$ [H]
  · isplitr; · iempintro
    isplitr; · iempintro
    iexact H
  iintro ⟨-, H⟩
  iapply Hk; iexact H

/-- Sending the first messages. -/
theorem phase_send (c : Dev nD) (A : Fin 4 → sProp 𝕄) (l : List Due) (k : P F) (Q : PUnit → sProp 𝕄) :
    iprop(known X W K J ∗ due c (duesSend 0 l)
        ∗ each (fun i => iprop(slotAt c i 0 (firstPart X W c i) ∗ slotAny (dnDev c i) i 1 ∗ sendTok c i 0 ∗ sendPos c i 0 ∗ A i)))
      ⊢ iprop(((due c l ∗ each (fun i => iprop(sendCred c i 0 ∗ sendPos c i 0 ∗ A i))) -∗ runs c k Q)
        -∗ runs c (rings (fun i => sendS c i (sl 0) (sl 1)) k) Q) :=
  rings_rule c (known X W K J) (fun n => due c ((duesSend 0 l).drop n))
    (fun i => iprop(slotAt c i 0 (firstPart X W c i) ∗ slotAny (dnDev c i) i 1 ∗ sendTok c i 0 ∗ sendPos c i 0 ∗ A i))
    (fun i => iprop(sendCred c i 0 ∗ sendPos c i 0 ∗ A i)) (fun i => sendS c i (sl 0) (sl 1)) (fun i k Q => by
      rw [show (duesSend 0 l).drop i.val = dueSend i 0 :: (duesSend 0 l).drop (i.val + 1) from by fin_cases i <;> rfl]
      iintro ⟨#HK, HO, Hs, Hd, Ht, Hp, HA⟩ Hk
      ihave ⟨-, #Hrd⟩ := (known_cell X W K J (mem_cells (dnDev c i) (semOf_recv i (sl 1)))) $$ HK
      iapply (op_sendNext X W K J c i 0 ((duesSend 0 l).drop (i.val + 1)) (by decide)) $$ [HO Hs Hd Ht Hp]
      · isplitr; · iexact HK
        isplitl [HO]; · iexact HO
        isplitl [Hs]; · iexact Hs
        isplitl [Hd]; · iexact Hd
        isplitl [Ht]; · iexact Ht
        isplitl [Hp]; · iexact Hp
        iexact Hrd
      iintro ⟨HO, Hc, Hp⟩
      iapply Hk
      isplitl [HO]; · iexact HO
      isplitl [Hc]; · iexact Hc
      isplitl [Hp] <;> iassumption) k Q

/-- A ring before step 0. -/
def ringZero (c : Dev nD) (i : Fin 4) : sProp 𝕄 :=
  iprop((sendPos c i 0 ∗ sendPos c i 1 ∗ sendPos c i 2) ∗ (recvPos c i 0 ∗ recvPos c i 1 ∗ recvPos c i 2) ∗ sendCred c i 0 ∗ posC c i 0
    ∗ slotAny (dnDev c i) i 2)

/-- Step 0. -/
theorem phase_first (c : Dev nD) (A : Fin 4 → sProp 𝕄) (l : List Due) (hl : Above 8 l) (k : P F) (Q : PUnit → sProp 𝕄) :
    iprop(known X W K J ∗ due c (duesSend 1 l) ∗ each (fun i => iprop((ringZero c i ∗ sendTok c i 1 ∗ recvCred c i 0) ∗ A i)))
      ⊢ iprop(((due c l ∗ each (fun i => iprop(ringAt c i 0 ∗ A i))) -∗ runs c k Q)
        -∗ runs c (rings (ringFirst c (prodOf X W c (stepOff c 0) (stepOff_inb c 0) 0) (prodOf X W c (stepOff c 0) (stepOff_inb c 0) 1)) k) Q) :=
  rings_rule c (known X W K J) (fun n => due c ((duesSend 1 l).drop n))
    (fun i => iprop((ringZero c i ∗ sendTok c i 1 ∗ recvCred c i 0) ∗ A i))
    (fun i => iprop(ringAt c i 0 ∗ A i)) (ringFirst c _ _) (fun i k Q => by
      have ha : Above 8 ((duesSend 1 l).drop i.val) := fun x hx =>
        above_send (n := 8) (k := 1) (by decide) (by decide) hl x (List.mem_of_mem_drop hx)
      rw [show (duesSend 1 l).drop i.val = dueSend i 1 :: (duesSend 1 l).drop (i.val + 1) from by fin_cases i <;> rfl] at ha ⊢
      iintro ⟨#HK, HO, ⟨Hz, Ht, Hc⟩, HA⟩ Hk
      iapply (op_ringFirst X W K J c i _ _ ((duesSend 1 l).drop (i.val + 1)) rfl
        (ha.mono (by have := i.isLt; unfold lr; omega))) $$ [HO Hz Ht Hc]
      · isplitr; · iexact HK
        isplitl [HO]; · iexact HO
        isplitl [Hz]; · unfold ringZero; iexact Hz
        isplitl [Ht] <;> iassumption
      iintro ⟨HO, Hr⟩
      iapply Hk
      isplitl [HO]; · iexact HO
      isplitl [Hr] <;> iassumption) k Q

/-- The dues after the rings before `i`, in step `h`. -/
theorem step_drop (h : ℕ) (i : Fin 4) (l : List Due) :
    (duesStep h l).drop (2 * i.val) = duesRing h i ((duesStep h l).drop (2 * (i.val + 1))) := by fin_cases i <;> rfl

theorem above_drop (h : ℕ) (hh : h ≤ 13) (i : Fin 4) (l : List Due) (hl : Above (10 + 8 * h) l) :
    Above (lc h i) ((duesStep h l).drop (2 * (i.val + 1))) := by
  have hl' := hl.mono (k := lc h i) (by have := i.isLt; unfold lc; omega)
  fin_cases i
  · exact above_ring (by simp [lc]) hh (above_ring (by simp [lc]) hh (above_ring (by simp [lc]) hh hl'))
  · exact above_ring (by simp [lc]) hh (above_ring (by simp [lc]) hh hl')
  · exact above_ring (by simp [lc]) hh hl'
  · exact hl'

/-- Step `n + 1`, `n ≤ 12`. -/
theorem phase_mid (c : Dev nD) (n : ℕ) (hn : n ≤ 12) (l : List Due) (hl : Above (18 + 8 * n) l) (k : P F) (Q : PUnit → sProp 𝕄) :
    iprop(known X W K J ∗ due c (duesStep (n + 1) l) ∗ each (fun i => iprop(ringAt c i n ∗ stepRes c i (n + 1))))
      ⊢ iprop(((due c l ∗ each (fun i => ringAt c i (n + 1))) -∗ runs c k Q)
        -∗ runs c (rings (ringMid c (n + 1) (prodOf X W c (stepOff c (n + 1)) (stepOff_inb c (n + 1)) 0)
            (prodOf X W c (stepOff c (n + 1)) (stepOff_inb c (n + 1)) 1)) k) Q) :=
  rings_rule c (known X W K J) (fun m => due c ((duesStep (n + 1) l).drop (2 * m)))
    (fun i => iprop(ringAt c i n ∗ stepRes c i (n + 1))) (fun i => ringAt c i (n + 1)) (ringMid c (n + 1) _ _) (fun i k Q => by
      have ha := above_drop (n + 1) (by omega) i l (hl.mono (by omega))
      rw [step_drop (n + 1) i l]
      exact op_ringMid X W K J c i n _ _ _ hn rfl ha k Q) k Q

omit [FloatOps F] in
/-- The first of the middle steps takes its share. -/
theorem res_step (c : Dev nD) (n m : ℕ) :
    bigSep (Finset.Ico (n + 1) (n + 1 + (m + 1))) (fun h => each fun i => stepRes c i h)
      ⊢ (iprop(each (fun i => stepRes c i (n + 1)) ∗ bigSep (Finset.Ico (n + 1 + 1) (n + 1 + 1 + m)) (fun h => each fun i => stepRes c i h)) : sProp 𝕄) := by
  rw [show Finset.Ico (n + 1) (n + 1 + (m + 1)) = insert (n + 1) (Finset.Ico (n + 1 + 1) (n + 1 + 1 + m)) from by
    ext x; simp only [Finset.mem_insert, Finset.mem_Ico]; omega, bigSep_insert (by simp)]
  exact BI.Entails.refl _

/-- The middle steps. -/
theorem phase_steps (c : Dev nD) : ∀ (m n : ℕ), m + n ≤ 13 → ∀ (k : P F) (Q : PUnit → sProp 𝕄),
    iprop(known X W K J ∗ due c (duesMid m (n + 1)) ∗ holds X W c ∗ each (fun i => ringAt c i n)
        ∗ bigSep (Finset.Ico (n + 1) (n + 1 + m)) (fun h => each fun i => stepRes c i h))
      ⊢ iprop(((due c [] ∗ holds X W c ∗ each (fun i => ringAt c i (n + m))) -∗ runs c k Q) -∗ runs c (stepsMid c m (n + 1) k) Q)
  | 0, n, _, k, Q => by
    unfold duesMid stepsMid
    iintro ⟨-, HO, HX, HR, -⟩ Hk
    iapply Hk
    isplitl [HO]; · iexact HO
    isplitl [HX]; · iexact HX
    iexact HR
  | m + 1, n, hmn, k, Q => by
    unfold duesMid stepsMid stepMid
    iintro ⟨#HK, HO, HX, HR, HM⟩ Hk
    ihave ⟨HS, HM⟩ := (res_step c n m) $$ HM
    iapply (op_products X W c (stepOff c (n + 1)) (stepOff_inb c (n + 1))) $$ HX
    iintro HX
    ihave HRS := (each_zip _ _) $$ [HR HS]
    · isplitl [HR] <;> iassumption
    iapply (phase_mid X W K J c n (by omega) _ ((above_mid m (n + 1 + 1) (by omega)).mono (by omega))) $$ [HO HRS]
    · isplitr; · iexact HK
      isplitl [HO] <;> iassumption
    iintro ⟨HO, HR⟩
    iapply (phase_steps c m (n + 1) (by omega)) $$ [HO HX HR HM]
    · isplitr; · iexact HK
      isplitl [HO]; · iexact HO
      isplitl [HX]; · iexact HX
      isplitl [HR] <;> iassumption
    rw [show n + 1 + m = n + (m + 1) from by omega]
    iexact Hk

/-- A ring at the end. -/
def ringEnd (c : Dev nD) (i : Fin 4) : sProp 𝕄 :=
  iprop((sendPos c i 15 ∗ sendPos c i 16 ∗ sendPos c i 17) ∗ (recvPos c i 15 ∗ recvPos c i 16 ∗ recvPos c i 17) ∗ posC c i 13 ∗ slots c i)

/-- The last step. -/
theorem phase_last (c : Dev nD) (k : P F) (Q : PUnit → sProp 𝕄) :
    iprop(known X W K J ∗ (due c [] ∗ holdsOut c (result X W c) 0) ∗ each (fun i => iprop(ringAt c i 13 ∗ recvCred c i 14)))
      ⊢ iprop((((due c [] ∗ holdsOut c (result X W c) 4) ∗ each (fun i => ringLastAt c i)) -∗ runs c k Q)
        -∗ runs c (rings (ringLast (prodOf X W c (stepOff c 14) (stepOff_inb c 14) 0) (prodOf X W c (stepOff c 14) (stepOff_inb c 14) 1)) k) Q) :=
  rings_rule c (known X W K J) (fun n => iprop(due c [] ∗ holdsOut c (result X W c) n))
    (fun i => iprop(ringAt c i 13 ∗ recvCred c i 14)) (fun i => ringLastAt c i) (ringLast _ _) (fun i k Q => by
      iintro ⟨#HK, ⟨HO, HU⟩, Hr, Hc⟩ Hk
      iapply (op_ringLast X W K J c i _ _ rfl) $$ [HO HU Hr Hc]
      · isplitr; · iexact HK
        isplitl [HO]; · iexact HO
        isplitl [HU]; · iexact HU
        isplitl [Hr] <;> iassumption
      iintro ⟨HO, HU, Hr⟩
      iapply Hk
      isplitl [HO HU]
      · isplitl [HO] <;> iassumption
      iexact Hr) k Q

/-- The last sends are done. -/
theorem phase_drain (c : Dev nD) (k : P F) (Q : PUnit → sProp 𝕄) :
    iprop(known X W K J ∗ due c [] ∗ each (fun i => ringLastAt c i))
      ⊢ iprop(((due c [] ∗ each (fun i => ringEnd c i)) -∗ runs c k Q)
        -∗ runs c (rings (fun i => waitS i (sendSems i) (sl 2) (sl 0)) k) Q) :=
  rings_rule c (known X W K J) (fun _ => due c []) (fun i => ringLastAt c i) (fun i => ringEnd c i) _ (fun i k Q => by
      unfold ringLastAt ringEnd slots pair
      iintro ⟨#HK, HO, ⟨Hs0, Hs1, Hs2⟩, Hr, Hc, HC, Hb0, Hb1⟩ Hk
      iapply (op_sendDone X W K J c i 14 (sl 0) [] (by decide) (.nil 0)) $$ [HO Hc Hs0]
      · isplitr; · iexact HK
        isplitl [HO]; · iexact HO
        isplitl [Hc] <;> iassumption
      iintro ⟨HO, Hs3, Hb2⟩
      iapply Hk
      isplitl [HO]; · iexact HO
      isplitl [Hs1 Hs2 Hs3]
      · isplitl [Hs1]; · iexact Hs1
        isplitl [Hs2] <;> iassumption
      isplitl [Hr]; · iexact Hr
      isplitl [HC]; · iexact HC
      isplitl [Hb0]; · iexact Hb0
      isplitl [Hb1]; · iexact Hb1
      iexact Hb2) k Q

/-! ## Closing -/

/-- A ring's semaphores at zero. -/
def ringSems (c : Dev nD) (i : Fin 4) : sProp 𝕄 :=
  iprop((semVal (sendCell c i 0) 0 ∗ semVal (sendCell c i 1) 0 ∗ semVal (sendCell c i 2) 0)
    ∗ (semVal (recvCell c i 0) 0 ∗ semVal (recvCell c i 1) 0 ∗ semVal (recvCell c i 2) 0) ∗ semVal (credCell c i) 0)

/-- A semaphore with no further round closes at zero. -/
theorem close_cell (c : Dev nD) (sm : SemLoc sig) (hs : ∃ j, semOf j = sm) (R : ℕ)
    (hR : ∀ r, R ≤ r → (Rd X W).duties ((c : Thread nD τ), sm) r = ∅) :
    iprop(known X W K J ∗ atPos ER ((c : Thread nD τ), sm) R ∅ 0) ⊢ |={Set.univ}=> (semVal ((c : Thread nD τ), sm) 0 : sProp 𝕄) := by
  iintro ⟨#HK, Hp⟩
  ihave ⟨#Hi, -⟩ := (known_cell X W K J (mem_cells c hs)) $$ HK
  iapply (Rounds.cell_close ER (Rd X W) (Set.mem_univ (K ((c : Thread nD τ), sm))) (fun h => h) hR)
  isplitr; · iexact Hi
  iexact Hp

theorem close_send (c : Dev nD) (i : Fin 4) (m : ℕ) (hm : 15 ≤ m) :
    iprop(known X W K J ∗ sendPos c i m) ⊢ |={Set.univ}=> (semVal (sendCell c i (sl m)) 0 : sProp 𝕄) := by
  unfold sendPos pos
  iintro ⟨#HK, Hp, -⟩
  iapply (close_cell X W K J c (sendLoc i (sl m)) (semOf_send i (sl m)) (m / 3) (fun r hr => duties_done X W _ r (by omega)))
  isplitr; · iexact HK
  iexact Hp

theorem close_recv (c : Dev nD) (i : Fin 4) (m : ℕ) (hm : 15 ≤ m) :
    iprop(known X W K J ∗ recvPos c i m) ⊢ |={Set.univ}=> (semVal (recvCell c i (sl (m + 1))) 0 : sProp 𝕄) := by
  unfold recvPos pos
  iintro ⟨#HK, Hp, -⟩
  iapply (close_cell X W K J c (recvLoc i (sl (m + 1))) (semOf_recv i (sl (m + 1))) (m / 3) (fun r hr => duties_done X W _ r (by omega)))
  isplitr; · iexact HK
  iexact Hp

theorem close_credit (c : Dev nD) (i : Fin 4) :
    iprop(known X W K J ∗ posC c i 13) ⊢ |={Set.univ}=> (semVal (credCell c i) 0 : sProp 𝕄) := by
  unfold posC
  iintro ⟨#HK, %T, %hT, Hp, -⟩
  ihave ⟨#Hi, -⟩ := (known_cell X W K J (mem_cells c (semOf_credit i))) $$ HK
  have hsub : (Rd X W).duties (credCell c i) 0 ⊆ T := by
    rw [duties_credit]
    exact Finset.sdiff_eq_empty_iff_subset.mp (Finset.card_eq_zero.mp (by omega))
  imod (Rounds.fupd_skip (E := ER) (Rd := Rd X W) (κ := K (credCell c i)) (Es := Set.univ) hsub (expect_credit X W c i).symm (Set.mem_univ _)) $$ [Hp] with ⟨Hp, -⟩
  · isplitr; · iexact Hi
    iexact Hp
  iapply (close_cell X W K J c (credLoc i) (semOf_credit i) (0 + 1) (fun r hr => duties_credit_done X W c i r (by omega)))
  isplitr; · iexact HK
  iexact Hp

theorem close_ring (c : Dev nD) (i : Fin 4) :
    iprop(known X W K J ∗ ringEnd c i) ⊢ |={Set.univ}=> (iprop(ringSems c i ∗ slots c i) : sProp 𝕄) := by
  unfold ringEnd ringSems
  iintro ⟨#HK, ⟨Hs0, Hs1, Hs2⟩, ⟨Hr0, Hr1, Hr2⟩, HC, Hb⟩
  imod (close_send X W K J c i 15 (by decide)) $$ [Hs0] with Hs0
  · isplitr; · iexact HK
    iexact Hs0
  imod (close_send X W K J c i 16 (by decide)) $$ [Hs1] with Hs1
  · isplitr; · iexact HK
    iexact Hs1
  imod (close_send X W K J c i 17 (by decide)) $$ [Hs2] with Hs2
  · isplitr; · iexact HK
    iexact Hs2
  imod (close_recv X W K J c i 15 (by decide)) $$ [Hr0] with Hr0
  · isplitr; · iexact HK
    iexact Hr0
  imod (close_recv X W K J c i 16 (by decide)) $$ [Hr1] with Hr1
  · isplitr; · iexact HK
    iexact Hr1
  imod (close_recv X W K J c i 17 (by decide)) $$ [Hr2] with Hr2
  · isplitr; · iexact HK
    iexact Hr2
  imod (close_credit X W K J c i) $$ [HC] with HC
  · isplitr; · iexact HK
    iexact HC
  imodintro
  isplitr [Hb]
  · isplitl [Hs0 Hs1 Hs2]
    · isplitl [Hs0]; · iexact Hs0
      isplitl [Hs1]; · iexact Hs1
      iexact Hs2
    isplitl [Hr0 Hr1 Hr2]
    · isplitl [Hr2]; · iexact Hr2
      isplitl [Hr0]; · iexact Hr0
      iexact Hr1
    iexact HC
  iexact Hb

omit [FloatOps F] in
/-- What is known serves every ring. -/
theorem each_known {R : sProp 𝕄} [BI.Persistent R] {A B : Fin 4 → sProp 𝕄} (h : ∀ i, iprop(R ∗ A i) ⊢ B i) : iprop(R ∗ each A) ⊢ each B :=
  (BI.Laws.sep_mono_left (BI.bigSep_of_persistent Finset.univ R)).trans (by rw [← bigSep_sep']; exact bigSep_mono fun i _ => h i)

theorem close_rings (c : Dev nD) :
    iprop(known X W K J ∗ each (ringEnd c)) ⊢ |={Set.univ}=> (each (fun i => iprop(ringSems c i ∗ slots c i)) : sProp 𝕄) :=
  (each_known fun i => close_ring X W K J c i).trans (bigSep_fupd _ _)

/-! ## The body -/

omit [FloatOps F] in
/-- The slots handed to the two neighbours. -/
theorem barPays (c : Dev nD) : each (pair c) ⊢ (iprop(barPay (leftDev c) 0 ∗ barPay (rightDev c) 1) : sProp 𝕄) := by
  rw [each_eq]
  unfold barPay lent pair
  rw [if_pos rfl, if_neg (by decide)]
  show _ ⊢ iprop(((slotAny (rightDev (leftDev c)) 0 1 ∗ slotAny (rightDev (leftDev c)) 0 2)
    ∗ (slotAny (rightDev (leftDev c)) 1 1 ∗ slotAny (rightDev (leftDev c)) 1 2))
    ∗ ((slotAny (leftDev (rightDev c)) 2 1 ∗ slotAny (leftDev (rightDev c)) 2 2)
    ∗ (slotAny (leftDev (rightDev c)) 3 1 ∗ slotAny (leftDev (rightDev c)) 3 2)))
  rw [right_left, left_right]
  iintro ⟨H0, H1, H2, H3⟩
  isplitl [H0 H1]
  · isplitl [H0] <;> iassumption
  · isplitl [H2] <;> iassumption

/-- A device knows its number. -/
theorem op_deviceId (c : Dev nD) (k : Dev nD → P F) (Q : PUnit → sProp 𝕄) : runs c (k c) Q ⊢ runs c (Prog.op .deviceId k) Q :=
  Entails.of_eq (wp_deviceId ..).symm

/-- The end. -/
theorem op_ret (c : Dev nD) (Q : PUnit → sProp 𝕄) : iprop(|={Set.univ}=> Q ⟨⟩) ⊢ runs c (.ret ⟨⟩ : P F) Q :=
  Entails.of_eq (wp_ret ..).symm

theorem body_run (c : Dev nD) (Q : PUnit → sProp 𝕄) :
    iprop(known X W K J ∗ due c dues ∗ holds X W c ∗ holdsOut c (result X W c) 0 ∗ barRes c ∗ each (ringInit c) ∗ each (firstTok c) ∗ midRes c
        ∗ each (slots c))
      ⊢ iprop(((due c [] ∗ holds X W c ∗ holdsOut c (result X W c) 4 ∗ semVal (barCell c) 0
          ∗ each (fun i => iprop(ringSems c i ∗ slots c i))) -∗ Q ⟨⟩) -∗ runs c body Q) := by
  unfold body dues barRes
  iintro ⟨#HK, HO, HX, HU, ⟨HbP, HtL, HtR, HcB⟩, HI, HF, HM, HS⟩ Hk
  ihave ⟨HS0, HS12⟩ := (each_unzip (fun i => slotAny c i 0) (pair c)) $$ [HS]
  · unfold slots; iexact HS
  ihave ⟨HL, HR⟩ := (barPays c) $$ HS12
  iapply (op_deviceId c)
  have ha : Above 1 (duesSend 0 (duesSend 1 (duesMid 13 1))) :=
    above_send (by decide) (by decide) (above_send (by decide) (by decide) ((above_mid 13 1 (by decide)).mono (by decide)))
  iapply (op_signalBar X W K J c (leftDev c) 0 (by decide) dueLeft _ rfl) $$ [HO HtL HL]
  · isplitr; · iexact HK
    isplitl [HO]; · iexact HO
    isplitl [HtL] <;> iassumption
  iintro HO
  iapply (op_signalBar X W K J c (rightDev c) 1 (by decide) dueRight _ rfl) $$ [HO HtR HR]
  · isplitr; · iexact HK
    isplitl [HO]; · iexact HO
    isplitl [HtR] <;> iassumption
  iintro HO
  iapply (op_waitBar X W K J c _ ha) $$ [HO HcB HbP]
  · isplitr; · iexact HK
    isplitl [HO]; · iexact HO
    isplitl [HcB] <;> iassumption
  iintro ⟨HO, HbP, HL⟩
  iapply (op_products X W c (firstOff c) (firstOff_inb c)) $$ HX
  iintro HX
  ihave HLI := (each_zip (lent c) (ringInit c)) $$ [HL HI]
  · isplitl [HL] <;> iassumption
  ihave HLIF := (each_zip (fun i => iprop(lent c i ∗ ringInit c i)) (firstTok c)) $$ [HLI HF]
  · isplitl [HLI] <;> iassumption
  ihave HA := (each_zip (fun i => slotAny c i 0) _) $$ [HS0 HLIF]
  · isplitl [HS0] <;> iassumption
  iapply (phase_fill X W c (fun i => iprop((lent c i ∗ ringInit c i) ∗ firstTok c i))) $$ HA
  iintro HA
  ihave HA := (each_mono (B := fun i => iprop(slotAt c i 0 (firstPart X W c i) ∗ slotAny (dnDev c i) i 1 ∗ sendTok c i 0 ∗ sendPos c i 0
      ∗ (slotAny (dnDev c i) i 2 ∗ (sendPos c i 1 ∗ sendPos c i 2) ∗ (recvPos c i 0 ∗ recvPos c i 1 ∗ recvPos c i 2) ∗ posC c i 0
        ∗ sendTok c i 1 ∗ recvCred c i 0 ∗ recvCred c i 14))) fun i => by
    unfold lent ringInit firstTok
    iintro ⟨Hs, ⟨⟨H1, H2⟩, ⟨Hs0, Hs1, Hs2⟩, Hr, HC⟩, ⟨Ht0, Ht1⟩, Hc0, Hc14⟩
    isplitl [Hs]; · iexact Hs
    isplitl [H1]; · iexact H1
    isplitl [Ht0]; · iexact Ht0
    isplitl [Hs0]; · iexact Hs0
    isplitl [H2]; · iexact H2
    isplitl [Hs1 Hs2]
    · isplitl [Hs1] <;> iassumption
    isplitl [Hr]; · iexact Hr
    isplitl [HC]; · iexact HC
    isplitl [Ht1]; · iexact Ht1
    isplitl [Hc0] <;> iassumption) $$ HA
  iapply (phase_send X W K J c _ _) $$ [HO HA]
  · isplitr; · iexact HK
    isplitl [HO] <;> iassumption
  iintro ⟨HO, HA⟩
  iapply (op_products X W c (stepOff c 0) (stepOff_inb c 0)) $$ HX
  iintro HX
  ihave HA := (each_mono (B := fun i => iprop((ringZero c i ∗ sendTok c i 1 ∗ recvCred c i 0) ∗ recvCred c i 14)) fun i => by
    unfold ringZero
    iintro ⟨Hc, Hs0, H2, ⟨Hs1, Hs2⟩, Hr, HC, Ht1, Hc0, Hc14⟩
    isplitr [Hc14]
    · isplitr [Ht1 Hc0]
      · isplitl [Hs0 Hs1 Hs2]
        · isplitl [Hs0]; · iexact Hs0
          isplitl [Hs1] <;> iassumption
        isplitl [Hr]; · iexact Hr
        isplitl [Hc]; · iexact Hc
        isplitl [HC] <;> iassumption
      · isplitl [Ht1] <;> iassumption
    · iexact Hc14) $$ HA
  iapply (phase_first X W K J c _ _ ((above_mid 13 1 (by decide)).mono (by decide))) $$ [HO HA]
  · isplitr; · iexact HK
    isplitl [HO] <;> iassumption
  iintro ⟨HO, HA⟩
  ihave ⟨HA, HC14⟩ := (each_unzip (fun i => ringAt c i 0) (fun i => recvCred c i 14)) $$ HA
  iapply (phase_steps X W K J c 13 0 (by decide)) $$ [HO HX HA HM]
  · isplitr; · iexact HK
    isplitl [HO]; · iexact HO
    isplitl [HX]; · iexact HX
    isplitl [HA]; · iexact HA
    unfold midRes; iexact HM
  iintro ⟨HO, HX, HA⟩
  iapply (op_products X W c (stepOff c 14) (stepOff_inb c 14)) $$ HX
  iintro HX
  ihave HA := (each_zip (fun i => ringAt c i 13) (fun i => recvCred c i 14)) $$ [HA HC14]
  · isplitl [HA] <;> iassumption
  iapply (phase_last X W K J c) $$ [HO HU HA]
  · isplitr; · iexact HK
    isplitl [HO HU]
    · isplitl [HO] <;> iassumption
    iexact HA
  iintro ⟨⟨HO, HU⟩, HA⟩
  iapply (phase_drain X W K J c) $$ [HO HA]
  · isplitr; · iexact HK
    isplitl [HO] <;> iassumption
  iintro ⟨HO, HA⟩
  iapply (op_ret c Q)
  imod (close_rings X W K J c) $$ [HA] with HA
  · isplitr; · iexact HK
    iexact HA
  imod (close_cell X W K J c barLoc ⟨28, semOf_bar⟩ 1 (duties_bar_done X W c)) $$ [HbP] with HbV
  · isplitr; · iexact HK
    iexact HbP
  imodintro
  iapply Hk
  isplitl [HO]; · iexact HO
  isplitl [HX]; · iexact HX
  isplitl [HU]; · iexact HU
  isplitl [HbV] <;> iassumption

end Cert.Proof

end
-- ==== Proof.Credits.lean ====
/-
  The credit the launch deals each device: for every unit another device owes it, the promise of that unit.
-/
module

public import proofs.«01_k».proof.Proof.Body

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

/-- What a device is promised for a list of dues. -/
def credsOf (c : Dev nD) : List Due → sProp 𝕄
  | [] => iprop(emp)
  | x :: l => iprop(cred (tallyAt ((c : Thread nD τ), x.sem) x.ix x.amt) ∗ credsOf c l)

omit [FloatOps F] in
theorem credsOf_cons (c : Dev nD) (x : Due) (l : List Due) :
    (credsOf c (x :: l) : sProp 𝕄) = iprop(cred (tallyAt ((c : Thread nD τ), x.sem) x.ix x.amt) ∗ credsOf c l) := rfl

omit [FloatOps F] in
theorem launch_creds (c : Dev nD) : ∀ l : List Due, (Pipeline.launchCred (fun d => owesL l d) c : sProp 𝕄) ⊢ credsOf c l
  | [] => Entails.of_eq (Pipeline.launchCred_zero c)
  | x :: l => by
    show (Pipeline.launchCred (fun d => owesL l d + tallyAt ((x.dest d : Thread nD τ), x.sem) x.ix x.amt) c : sProp 𝕄) ⊢ _
    rw [Pipeline.launchCred_add, credsOf_cons]
    iintro ⟨Hl, Hx⟩
    isplitl [Hx]
    · iapply (Pipeline.launchCred_tallyAt x.sem x.dest x.back x.dest_back x.back_dest x.ix x.amt c); iexact Hx
    · iapply (launch_creds c l); iexact Hl

omit [FloatOps F] in
theorem creds_send (c : Dev nD) (k : ℕ) (l : List Due) :
    (credsOf c (duesSend k l) : sProp 𝕄) ⊢ iprop(each (fun i => recvCred c i k) ∗ credsOf c l) := by
  unfold duesSend
  rw [credsOf_cons, credsOf_cons, credsOf_cons, credsOf_cons, each_eq]
  unfold recvCred
  iintro ⟨H0, H1, H2, H3, H⟩
  isplitr [H]
  · isplitl [H0]; · iexact H0
    isplitl [H1]; · iexact H1
    isplitl [H2]; · iexact H2
    iexact H3
  · iexact H

/-- What a device is promised for one step. -/
def stepCreds (c : Dev nD) (h : ℕ) : sProp 𝕄 := each fun i => iprop(credCred c i h ∗ recvCred c i (h + 1))

omit [FloatOps F] in
theorem creds_ring (c : Dev nD) (h : ℕ) (i : Fin 4) (l : List Due) :
    (credsOf c (duesRing h i l) : sProp 𝕄) ⊢ iprop((credCred c i h ∗ recvCred c i (h + 1)) ∗ credsOf c l) := by
  unfold duesRing
  rw [credsOf_cons, credsOf_cons]
  unfold recvCred credCred
  iintro ⟨H0, H1, H⟩
  isplitr [H]
  · isplitl [H0]; · iexact H0
    iexact H1
  · iexact H

omit [FloatOps F] in
theorem creds_step (c : Dev nD) (h : ℕ) (l : List Due) :
    (credsOf c (duesStep h l) : sProp 𝕄) ⊢ iprop(stepCreds c h ∗ credsOf c l) := by
  unfold duesStep stepCreds
  rw [each_eq]
  iintro H
  ihave ⟨H0, H⟩ := (creds_ring c h 0 _) $$ H
  ihave ⟨H1, H⟩ := (creds_ring c h 1 _) $$ H
  ihave ⟨H2, H⟩ := (creds_ring c h 2 _) $$ H
  ihave ⟨H3, H⟩ := (creds_ring c h 3 _) $$ H
  isplitr [H]
  · isplitl [H0]; · iexact H0
    isplitl [H1]; · iexact H1
    isplitl [H2] <;> iassumption
  · iexact H

omit [FloatOps F] in
theorem creds_mid (c : Dev nD) : ∀ n h : ℕ, (credsOf c (duesMid n h) : sProp 𝕄) ⊢ bigSep (Finset.Ico h (h + n)) fun s => stepCreds c s
  | 0, h => by
    rw [Nat.add_zero, Finset.Ico_self, bigSep_empty]; exact BI.Entails.refl _
  | n + 1, h => by
    have hs : (bigSep (Finset.Ico h (h + (n + 1))) fun s => (stepCreds c s : sProp 𝕄))
        = iprop(stepCreds c h ∗ bigSep (Finset.Ico (h + 1) (h + 1 + n)) fun s => stepCreds c s) := by
      rw [show h + (n + 1) = h + 1 + n by omega, ← Finset.insert_Ico_add_one_left_eq_Ico (show h < h + 1 + n by omega),
        bigSep_insert (by simp)]
      rfl
    rw [hs]
    show (credsOf c (duesStep h (duesMid n (h + 1))) : sProp 𝕄) ⊢ _
    iintro H
    ihave ⟨H0, H⟩ := (creds_step c h _) $$ H
    isplitl [H0]; · iexact H0
    iapply (creds_mid c n (h + 1)); iexact H

/-! ## Fifteen messages, thirteen credits -/

omit [FloatOps F] in
/-- The fifteen messages: the first two and the ones that follow a step; -/
theorem messages_after (A : ℕ → sProp 𝕄) :
    bigSep (Finset.range 15) A = iprop(A 0 ∗ A 1 ∗ bigSep (Finset.Ico 1 14) fun h => A (h + 1)) := by
  have hs : Finset.range 15 = insert 0 (insert 1 ((Finset.Ico 1 14).map ⟨(· + 1), add_left_injective 1⟩)) := by decide
  rw [hs, bigSep_insert (by decide), bigSep_insert (by decide), bigSep_map]; rfl

omit [FloatOps F] in
/-- the first, the last and the ones that come before a step. -/
theorem messages_before (A : ℕ → sProp 𝕄) :
    bigSep (Finset.range 15) A = iprop(A 0 ∗ A 14 ∗ bigSep (Finset.Ico 1 14) A) := by
  have hs : Finset.range 15 = insert 0 (insert 14 (Finset.Ico 1 14)) := by decide
  rw [hs, bigSep_insert (by decide), bigSep_insert (by decide)]; rfl

/-- All a device is promised. -/
def promised (c : Dev nD) : sProp 𝕄 :=
  iprop(cred (tallyAt (barCell c) 1 2) ∗ (each (fun i => recvCred c i 0) ∗ each (fun i => recvCred c i 14))
    ∗ bigSep (Finset.Ico 1 14) fun h => iprop(each (fun i => recvCred c i h) ∗ each fun i => credCred c i h))

omit [FloatOps F] in
theorem promised_intro (c : Dev nD) : (Pipeline.launchCred (fun d => owesL dues d) c : sProp 𝕄) ⊢ promised c := by
  have h2 : (tallyAt (barCell c) 1 2 : CellTallies nD τ sig ℕ) = tallyAt (barCell c) 1 1 + tallyAt (barCell c) 1 1 := by
    unfold tallyAt
    rw [← tallyOn_add, ← Finsupp.single_add]
  have hmid : (bigSep (Finset.Ico 1 14) fun h => (stepCreds c h : sProp 𝕄))
      = iprop((bigSep (Finset.Ico 1 14) fun h => each fun i => credCred c i h)
        ∗ bigSep (Finset.Ico 1 14) fun h => each fun i => recvCred c i (h + 1)) := by
    rw [← bigSep_sep']
    exact bigSep_congr fun h _ => by unfold stepCreds; exact bigSep_sep' _ _ _
  have hrecv : iprop(each (fun i => recvCred c i 0) ∗ each (fun i => recvCred c i 1) ∗ bigSep (Finset.Ico 1 14) fun h => each fun i => recvCred c i (h + 1))
      = (iprop(each (fun i => recvCred c i 0) ∗ each (fun i => recvCred c i 14) ∗ bigSep (Finset.Ico 1 14) fun h => each fun i => recvCred c i h) : sProp 𝕄) :=
    (messages_after fun m => each fun i => recvCred c i m).symm.trans (messages_before fun m => each fun i => recvCred c i m)
  unfold promised
  rw [bigSep_sep']
  iintro H
  ihave H := (launch_creds c dues) $$ H
  ihave ⟨Hl, H⟩ := (show (credsOf c dues : sProp 𝕄) ⊢ iprop(cred (tallyAt (barCell c) 1 1)
      ∗ credsOf c (dueRight :: duesSend 0 (duesSend 1 (duesMid 13 1)))) from BI.Entails.refl _) $$ H
  ihave ⟨Hr, H⟩ := (Entails.of_eq (credsOf_cons c dueRight _)) $$ H
  ihave ⟨H0, H⟩ := (creds_send c 0 _) $$ H
  ihave ⟨H1, H⟩ := (creds_send c 1 _) $$ H
  ihave H := (creds_mid c 13 1) $$ H
  ihave ⟨HC, HR⟩ := (Entails.of_eq hmid) $$ H
  ihave ⟨HR0, HR14, HR⟩ := (Entails.of_eq hrecv) $$ [H0 H1 HR]
  · isplitl [H0]; · iexact H0
    isplitl [H1] <;> iassumption
  isplitl [Hl Hr]
  · rw [h2]
    iapply (cred_add (tallyAt (barCell c) 1 1) (tallyAt (barCell c) 1 1)).2
    isplitl [Hl]; · iexact Hl
    iexact Hr
  isplitl [HR0 HR14]
  · isplitl [HR0] <;> iassumption
  isplitl [HR] <;> iassumption

end Cert.Proof

end
-- ==== Proof.Fund.lean ====
/-
  The ghost state the run starts from: the tokens of all duties, each with the device that pays it, the hand-overs of the
  slots, and the step that turns all devices' semaphores into the protocol's cells.
-/
module

public import proofs.«01_k».proof.Proof.Credits

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

variable (X : Dev nD → S4096x256.Idx → Elt F .bf16) (W : Dev nD → S256x8192.Idx → Elt F .bf16)

/-! ## The tokens -/

/-- A duty: a semaphore, its round and the unit. -/
abbrev Duty : Type := GSem nD τ sig × ℕ × ℕ

/-- The duties that sending a message pays, at its own end and at the receiver's, -/
def dutyOut (x : Dev nD × Fin 15 × Fin 4) : Duty := (sendCell x.1 x.2.2 (sl x.2.1), x.2.1 / 3, 0)
def dutyIn (x : Dev nD × Fin 15 × Fin 4) : Duty := (recvCell (dnDev x.1 x.2.2) x.2.2 (sl (x.2.1 + 1)), x.2.1 / 3, 0)

/-- those of a step's credit, -/
def dutyUp (x : Dev nD × Fin 13 × Fin 4) : Duty := (credCell (upDev x.1 x.2.2) x.2.2, 0, x.2.1 + 1)

/-- and those of the barrier. -/
def dutyBarL (c : Dev nD) : Duty := (barCell (leftDev c), 0, 0)
def dutyBarR (c : Dev nD) : Duty := (barCell (rightDev c), 0, 1)

theorem dn_injective (i : Fin 4) : Function.Injective fun c => dnDev c i := fun a b h => by
  rw [← up_dn a i, ← up_dn b i]; exact congrArg (fun c => upDev c i) h
theorem up_injective (i : Fin 4) : Function.Injective fun c => upDev c i := fun a b h => by
  rw [← dn_up a i, ← dn_up b i]; exact congrArg (fun c => dnDev c i) h

theorem dutyOut_injective : Function.Injective dutyOut := by
  rintro ⟨c, k, i⟩ ⟨c', k', i'⟩ h
  have hc : c = c' := congrArg (fun x : Duty => x.1.1.1) h
  have hk : kindOf (sendLoc i (sl k)) = kindOf (sendLoc i' (sl k')) := congrArg (fun x : Duty => kindOf x.1.2) h
  rw [kind_send, kind_send] at hk
  injection hk with hi hs
  have hq : k.val / 3 = k'.val / 3 := congrArg (fun x : Duty => x.2.1) h
  have hr : k.val % 3 = k'.val % 3 := congrArg Fin.val hs
  subst hc hi
  rw [show k = k' from Fin.ext (by omega)]

theorem dutyIn_injective : Function.Injective dutyIn := by
  rintro ⟨c, k, i⟩ ⟨c', k', i'⟩ h
  have hc : dnDev c i = dnDev c' i' := congrArg (fun x : Duty => x.1.1.1) h
  have hk : kindOf (recvLoc i (sl (k + 1))) = kindOf (recvLoc i' (sl (k' + 1))) := congrArg (fun x : Duty => kindOf x.1.2) h
  rw [kind_recv, kind_recv] at hk
  injection hk with hi hs
  have hq : k.val / 3 = k'.val / 3 := congrArg (fun x : Duty => x.2.1) h
  have hr : (k.val + 1) % 3 = (k'.val + 1) % 3 := congrArg Fin.val hs
  subst hi
  rw [dn_injective i hc, show k = k' from Fin.ext (by omega)]

theorem dutyUp_injective : Function.Injective dutyUp := by
  rintro ⟨c, k, i⟩ ⟨c', k', i'⟩ h
  have hc : upDev c i = upDev c' i' := congrArg (fun x : Duty => x.1.1.1) h
  have hk : kindOf (credLoc i) = kindOf (credLoc i') := congrArg (fun x : Duty => kindOf x.1.2) h
  rw [kind_credit, kind_credit] at hk
  injection hk with hi
  have hq : k.val + 1 = k'.val + 1 := congrArg (fun x : Duty => x.2.2) h
  subst hi
  rw [up_injective i hc, show k = k' from Fin.ext (by omega)]

theorem dutyBarL_injective : Function.Injective dutyBarL := fun a b h => by
  have : leftDev a = leftDev b := congrArg (fun x : Duty => x.1.1.1) h
  rw [← right_left a, ← right_left b, this]
theorem dutyBarR_injective : Function.Injective dutyBarR := fun a b h => by
  have : rightDev a = rightDev b := congrArg (fun x : Duty => x.1.1.1) h
  rw [← left_right a, ← left_right b, this]

/-- Which of the five families a duty is of. -/
def familyOf (x : Duty) : ℕ := match kindOf x.1.2 with
  | .send _ _ => 0
  | .recv _ _ => 1
  | .credit _ => 2
  | _ => 3 + x.2.2

theorem family_out (x) : familyOf (dutyOut x) = 0 := by unfold familyOf dutyOut; dsimp only; rw [kind_send]
theorem family_in (x) : familyOf (dutyIn x) = 1 := by unfold familyOf dutyIn; dsimp only; rw [kind_recv]
theorem family_up (x) : familyOf (dutyUp x) = 2 := by unfold familyOf dutyUp; dsimp only; rw [kind_credit]
theorem family_barL (x) : familyOf (dutyBarL x) = 3 := by unfold familyOf dutyBarL; dsimp only; rw [kind_bar]
theorem family_barR (x) : familyOf (dutyBarR x) = 4 := by unfold familyOf dutyBarR; dsimp only; rw [kind_bar]

def famOut : Finset Duty := Finset.univ.map ⟨dutyOut, dutyOut_injective⟩
def famIn : Finset Duty := Finset.univ.map ⟨dutyIn, dutyIn_injective⟩
def famUp : Finset Duty := Finset.univ.map ⟨dutyUp, dutyUp_injective⟩
def famBarL : Finset Duty := Finset.univ.map ⟨dutyBarL, dutyBarL_injective⟩
def famBarR : Finset Duty := Finset.univ.map ⟨dutyBarR, dutyBarR_injective⟩

/-- All duties. -/
def allDuties : Finset Duty := famOut ∪ (famIn ∪ (famUp ∪ (famBarL ∪ famBarR)))

theorem fam_disjoint {A B : Finset Duty} (n : ℕ) (hA : ∀ x ∈ A, familyOf x = n) (hB : ∀ x ∈ B, n < familyOf x) : Disjoint A B :=
  Finset.disjoint_left.mpr fun x ha hb => absurd (hA x ha) (Nat.ne_of_gt (hB x hb))

theorem fam_map {I : Type} [Fintype I] (f : I → Duty) (hf : Function.Injective f) (n : ℕ) (h : ∀ i, familyOf (f i) = n) :
    ∀ x ∈ (Finset.univ.map ⟨f, hf⟩ : Finset Duty), familyOf x = n := fun x hx => by
  obtain ⟨i, -, rfl⟩ := Finset.mem_map.mp hx; exact h i

theorem fam_out : ∀ x ∈ famOut, familyOf x = 0 := fam_map _ _ 0 family_out
theorem fam_in : ∀ x ∈ famIn, familyOf x = 1 := fam_map _ _ 1 family_in
theorem fam_up : ∀ x ∈ famUp, familyOf x = 2 := fam_map _ _ 2 family_up
theorem fam_barL : ∀ x ∈ famBarL, familyOf x = 3 := fam_map _ _ 3 family_barL
theorem fam_barR : ∀ x ∈ famBarR, familyOf x = 4 := fam_map _ _ 4 family_barR

theorem fam_above {A B : Finset Duty} (n a : ℕ) (hn : n < a) (hA : ∀ x ∈ A, familyOf x = a) (hB : ∀ x ∈ B, n < familyOf x) :
    ∀ x ∈ A ∪ B, n < familyOf x := fun x hx => by
  rcases Finset.mem_union.mp hx with h | h
  · rw [hA x h]; exact hn
  · exact hB x h

theorem fam_one {A : Finset Duty} (n a : ℕ) (hn : n < a) (hA : ∀ x ∈ A, familyOf x = a) : ∀ x ∈ A, n < familyOf x := fun x hx => by
  rw [hA x hx]; exact hn

omit [FloatOps F] in
theorem duties_split (A : Duty → sProp 𝕄) :
    bigSep allDuties A = iprop(bigSep famOut A ∗ bigSep famIn A ∗ bigSep famUp A ∗ bigSep famBarL A ∗ bigSep famBarR A) := by
  unfold allDuties
  rw [bigSep_union (fam_disjoint 0 fam_out (fam_above 0 1 (by decide) fam_in (fam_above 0 2 (by decide) fam_up
      (fam_above 0 3 (by decide) fam_barL (fam_one 0 4 (by decide) fam_barR))))),
    bigSep_union (fam_disjoint 1 fam_in (fam_above 1 2 (by decide) fam_up
      (fam_above 1 3 (by decide) fam_barL (fam_one 1 4 (by decide) fam_barR)))),
    bigSep_union (fam_disjoint 2 fam_up (fam_above 2 3 (by decide) fam_barL (fam_one 2 4 (by decide) fam_barR))),
    bigSep_union (fam_disjoint 3 fam_barL (fam_one 3 4 (by decide) fam_barR))]
  rfl

/-! ## By device, message or step, and ring -/

omit [FloatOps F] in
theorem by_message (A : Dev nD × Fin 15 × Fin 4 → sProp 𝕄) (B : Dev nD → ℕ → Fin 4 → sProp 𝕄) (h : ∀ c k i, A (c, k, i) = B c k i) :
    bigSep Finset.univ A = bigSep Finset.univ fun c => bigSep (Finset.range 15) fun m => each fun i => B c m i := by
  rw [bigSep_univ_prod]
  refine bigSep_congr fun c _ => ?_
  rw [bigSep_univ_prod, show Finset.range 15 = (Finset.univ : Finset (Fin 15)).map Fin.valEmbedding by decide, bigSep_map]
  exact bigSep_congr fun k _ => bigSep_congr fun i _ => h c k i

omit [FloatOps F] in
theorem by_step (A : Dev nD × Fin 13 × Fin 4 → sProp 𝕄) (B : Dev nD → ℕ → Fin 4 → sProp 𝕄) (h : ∀ c k i, A (c, k, i) = B c (k + 1) i) :
    bigSep Finset.univ A = bigSep Finset.univ fun c => bigSep (Finset.Ico 1 14) fun m => each fun i => B c m i := by
  rw [bigSep_univ_prod]
  refine bigSep_congr fun c _ => ?_
  rw [bigSep_univ_prod, show Finset.Ico 1 14 = ((Finset.univ : Finset (Fin 13)).map Fin.valEmbedding).map ⟨(· + 1), add_left_injective 1⟩ by decide,
    bigSep_map, bigSep_map]
  exact bigSep_congr fun k _ => bigSep_congr fun i _ => h c k i

/-- The key a step's reader has, and the one its writer has. -/
def keyOwn (x : Dev nD × Fin 13 × Fin 4) : Key := (x.1, x.2.2, x.2.1 + 1)
def keyDn (x : Dev nD × Fin 13 × Fin 4) : Key := (dnDev x.1 x.2.2, x.2.2, x.2.1 + 1)

theorem keyOwn_injective : Function.Injective keyOwn := by
  rintro ⟨c, k, i⟩ ⟨c', k', i'⟩ h
  have h1 : c = c' := congrArg (fun x : Key => x.1) h
  have h2 : i = i' := congrArg (fun x : Key => x.2.1) h
  have h3 : k.val + 1 = k'.val + 1 := congrArg (fun x : Key => x.2.2) h
  subst h1 h2
  rw [show k = k' from Fin.ext (by omega)]

theorem keyDn_injective : Function.Injective keyDn := by
  rintro ⟨c, k, i⟩ ⟨c', k', i'⟩ h
  have h1 : dnDev c i = dnDev c' i' := congrArg (fun x : Key => x.1) h
  have h2 : i = i' := congrArg (fun x : Key => x.2.1) h
  have h3 : k.val + 1 = k'.val + 1 := congrArg (fun x : Key => x.2.2) h
  subst h2
  rw [dn_injective i h1, show k = k' from Fin.ext (by omega)]

theorem keys_own : keys = Finset.univ.map ⟨keyOwn, keyOwn_injective⟩ := by
  ext ⟨c, i, h⟩
  simp only [keys, Finset.mem_product, Finset.mem_univ, true_and, Finset.mem_Icc, Finset.mem_map]
  constructor
  · rintro ⟨h1, h2⟩
    exact ⟨(c, ⟨h - 1, by omega⟩, i), by show (c, i, h - 1 + 1) = _; rw [Nat.sub_add_cancel h1]⟩
  · rintro ⟨⟨c', k, i'⟩, he⟩
    have h3 : k.val + 1 = h := congrArg (fun x : Key => x.2.2) he
    have := k.isLt
    omega

theorem keys_dn : keys = Finset.univ.map ⟨keyDn, keyDn_injective⟩ := by
  ext ⟨c, i, h⟩
  simp only [keys, Finset.mem_product, Finset.mem_univ, true_and, Finset.mem_Icc, Finset.mem_map]
  constructor
  · rintro ⟨h1, h2⟩
    exact ⟨(upDev c i, ⟨h - 1, by omega⟩, i), by show (dnDev (upDev c i) i, i, h - 1 + 1) = _; rw [Nat.sub_add_cancel h1, dn_up]⟩
  · rintro ⟨⟨c', k, i'⟩, he⟩
    have h3 : k.val + 1 = h := congrArg (fun x : Key => x.2.2) he
    have := k.isLt
    omega

/-! ## What each device is dealt -/

/-- Its tokens. -/
def tokens (c : Dev nD) : sProp 𝕄 :=
  iprop((dutyTok ER (barCell (leftDev c)) 0 0 ∗ dutyTok ER (barCell (rightDev c)) 0 1)
    ∗ (bigSep (Finset.range 15) fun m => each fun i => sendTok c i m)
    ∗ bigSep (Finset.Ico 1 14) fun h => each fun i => handTok c i h)

omit [FloatOps F] in
theorem tokens_intro :
    iprop(bigSep allDuties (fun x => dutyTok ER x.1 x.2.1 x.2.2) ∗ bigSep keys (fun k => Release.readerAt ES k 0)
        ∗ bigSep keys (fun k => Release.writeTok ES k 1))
      ⊢ (bigSep Finset.univ (fun c => tokens c) : sProp 𝕄) := by
  have hout : bigSep famOut (fun x => (dutyTok ER x.1 x.2.1 x.2.2 : sProp 𝕄))
      = bigSep Finset.univ fun c => bigSep (Finset.range 15) fun m => each fun i => dutyTok ER (sendCell c i (sl m)) (m / 3) 0 := by
    unfold famOut; rw [bigSep_map]; exact by_message _ _ fun _ _ _ => rfl
  have hin : bigSep famIn (fun x => (dutyTok ER x.1 x.2.1 x.2.2 : sProp 𝕄))
      = bigSep Finset.univ fun c => bigSep (Finset.range 15) fun m => each fun i => dutyTok ER (recvCell (dnDev c i) i (sl (m + 1))) (m / 3) 0 := by
    unfold famIn; rw [bigSep_map]; exact by_message _ _ fun _ _ _ => rfl
  have hup : bigSep famUp (fun x => (dutyTok ER x.1 x.2.1 x.2.2 : sProp 𝕄))
      = bigSep Finset.univ fun c => bigSep (Finset.Ico 1 14) fun h => each fun i => dutyTok ER (credCell (upDev c i) i) 0 h := by
    unfold famUp; rw [bigSep_map]; exact by_step _ (fun c h i => dutyTok ER (credCell (upDev c i) i) 0 h) fun _ _ _ => rfl
  have hread : bigSep keys (fun k => (Release.readerAt ES k 0 : sProp 𝕄))
      = bigSep Finset.univ fun c => bigSep (Finset.Ico 1 14) fun h => each fun i => Release.readerAt ES (c, i, h) 0 := by
    rw [keys_own, bigSep_map]; exact by_step _ (fun c h i => Release.readerAt ES (c, i, h) 0) fun _ _ _ => rfl
  have hwrite : bigSep keys (fun k => (Release.writeTok ES k 1 : sProp 𝕄))
      = bigSep Finset.univ fun c => bigSep (Finset.Ico 1 14) fun h => each fun i => Release.writeTok ES (dnDev c i, i, h) 1 := by
    rw [keys_dn, bigSep_map]; exact by_step _ (fun c h i => Release.writeTok ES (dnDev c i, i, h) 1) fun _ _ _ => rfl
  have hL : bigSep famBarL (fun x => (dutyTok ER x.1 x.2.1 x.2.2 : sProp 𝕄)) = bigSep Finset.univ fun c => dutyTok ER (barCell (leftDev c)) 0 0 := by
    unfold famBarL; rw [bigSep_map]; rfl
  have hR : bigSep famBarR (fun x => (dutyTok ER x.1 x.2.1 x.2.2 : sProp 𝕄)) = bigSep Finset.univ fun c => dutyTok ER (barCell (rightDev c)) 0 1 := by
    unfold famBarR; rw [bigSep_map]; rfl
  rw [duties_split, hout, hin, hup, hL, hR, hread, hwrite]
  unfold tokens sendTok handTok
  simp only [bigSep_sep']
  iintro ⟨⟨H1, H2, H3, H4, H5⟩, H6, H7⟩
  isplitl [H4 H5]
  · isplitl [H4] <;> iassumption
  isplitl [H1 H2]
  · isplitl [H1] <;> iassumption
  isplitl [H3]; · iexact H3
  isplitl [H7] <;> iassumption

end Cert.Proof

end
-- ==== Proof.Deal.lean ====
/-
  From the launch's semaphores and ghost state to what each device starts from, for all devices at once.
-/
module

public import proofs.«01_k».proof.Proof.Fund
public import Idealize.ShloMosaic.Lib.Pipeline.BigSepL

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

variable (X : Dev nD → S4096x256.Idx → Elt F .bf16) (W : Dev nD → S256x8192.Idx → Elt F .bf16)

/-! ## A device's semaphores, ring by ring -/

def sIx (i : Fin 4) (s : Fin 3) : Fin 29 := ⟨3 * i.val + s.val, by omega⟩
def rIx (i : Fin 4) (s : Fin 3) : Fin 29 := ⟨12 + 3 * i.val + s.val, by omega⟩
def cIx (i : Fin 4) : Fin 29 := ⟨24 + i.val, by omega⟩

theorem semOf_sIx : ∀ i s, semOf (sIx i s) = sendLoc i s := by decide +kernel
theorem semOf_rIx : ∀ i s, semOf (rIx i s) = recvLoc i s := by decide +kernel
theorem semOf_cIx : ∀ i, semOf (cIx i) = credLoc i := by decide +kernel

/-- The numbers of ring `i`'s semaphores. -/
def ringIx (i : Fin 4) : List (Fin 29) := [sIx i 0, sIx i 1, sIx i 2, rIx i 0, rIx i 1, rIx i 2, cIx i]

/-- Something of every semaphore of a ring. -/
def ringOf (A : SemLoc sig → sProp 𝕄) (i : Fin 4) : sProp 𝕄 :=
  iprop((A (sendLoc i 0) ∗ A (sendLoc i 1) ∗ A (sendLoc i 2)) ∗ (A (recvLoc i 0) ∗ A (recvLoc i 1) ∗ A (recvLoc i 2)) ∗ A (credLoc i))

omit [FloatOps F] in
theorem ringIx_eq (A : SemLoc sig → sProp 𝕄) (i : Fin 4) : bigSepL (ringIx i) (fun j => A (semOf j)) = ringOf A i := by
  have h : bigSepL (ringIx i) (fun j => A (semOf j))
      = iprop(A (semOf (sIx i 0)) ∗ A (semOf (sIx i 1)) ∗ A (semOf (sIx i 2)) ∗ A (semOf (rIx i 0)) ∗ A (semOf (rIx i 1))
        ∗ A (semOf (rIx i 2)) ∗ A (semOf (cIx i))) := rfl
  rw [h, semOf_sIx, semOf_sIx, semOf_sIx, semOf_rIx, semOf_rIx, semOf_rIx, semOf_cIx]
  unfold ringOf
  refine BI.equiv_iff.mp ⟨?_, ?_⟩
  · show iprop(A (sendLoc i 0) ∗ A (sendLoc i 1) ∗ A (sendLoc i 2) ∗ A (recvLoc i 0) ∗ A (recvLoc i 1) ∗ A (recvLoc i 2) ∗ A (credLoc i))
      ⊢ iprop((A (sendLoc i 0) ∗ A (sendLoc i 1) ∗ A (sendLoc i 2)) ∗ (A (recvLoc i 0) ∗ A (recvLoc i 1) ∗ A (recvLoc i 2)) ∗ A (credLoc i))
    iintro ⟨H1, H2, H3, H4, H5, H6, H7⟩
    isplitl [H1 H2 H3]
    · isplitl [H1]; · iexact H1
      isplitl [H2] <;> iassumption
    isplitl [H4 H5 H6]
    · isplitl [H4]; · iexact H4
      isplitl [H5] <;> iassumption
    iexact H7
  · show iprop((A (sendLoc i 0) ∗ A (sendLoc i 1) ∗ A (sendLoc i 2)) ∗ (A (recvLoc i 0) ∗ A (recvLoc i 1) ∗ A (recvLoc i 2)) ∗ A (credLoc i))
      ⊢ iprop(A (sendLoc i 0) ∗ A (sendLoc i 1) ∗ A (sendLoc i 2) ∗ A (recvLoc i 0) ∗ A (recvLoc i 1) ∗ A (recvLoc i 2) ∗ A (credLoc i))
    iintro ⟨⟨H1, H2, H3⟩, ⟨H4, H5, H6⟩, H7⟩
    isplitl [H1]; · iexact H1
    isplitl [H2]; · iexact H2
    isplitl [H3]; · iexact H3
    isplitl [H4]; · iexact H4
    isplitl [H5]; · iexact H5
    isplitl [H6] <;> iassumption

omit [FloatOps F] in
/-- All semaphores of a device: the four rings' and the barrier's. -/
theorem by_ring (A : SemLoc sig → sProp 𝕄) :
    bigSep (Finset.univ : Finset (Fin 29)) (fun j => A (semOf j)) = iprop(each (ringOf A) ∗ A barLoc) := by
  have hbar : bigSepL [(28 : Fin 29)] (fun j => A (semOf j)) = A barLoc := by
    show A (semOf 28) = _; rw [semOf_bar]
  have hassoc : iprop(ringOf A 0 ∗ ringOf A 1 ∗ ringOf A 2 ∗ ringOf A 3 ∗ A barLoc)
      = iprop((ringOf A 0 ∗ ringOf A 1 ∗ ringOf A 2 ∗ ringOf A 3) ∗ A barLoc) := by
    refine BI.equiv_iff.mp ⟨?_, ?_⟩
    · show iprop(ringOf A 0 ∗ ringOf A 1 ∗ ringOf A 2 ∗ ringOf A 3 ∗ A barLoc)
        ⊢ iprop((ringOf A 0 ∗ ringOf A 1 ∗ ringOf A 2 ∗ ringOf A 3) ∗ A barLoc)
      iintro ⟨H0, H1, H2, H3, H⟩
      isplitr [H]
      · isplitl [H0]; · iexact H0
        isplitl [H1]; · iexact H1
        isplitl [H2] <;> iassumption
      · iexact H
    · show iprop((ringOf A 0 ∗ ringOf A 1 ∗ ringOf A 2 ∗ ringOf A 3) ∗ A barLoc)
        ⊢ iprop(ringOf A 0 ∗ ringOf A 1 ∗ ringOf A 2 ∗ ringOf A 3 ∗ A barLoc)
      iintro ⟨⟨H0, H1, H2, H3⟩, H⟩
      isplitl [H0]; · iexact H0
      isplitl [H1]; · iexact H1
      isplitl [H2]; · iexact H2
      isplitl [H3] <;> iassumption
  rw [bigSep_univ_eq_bigSepL (ringIx 0 ++ (ringIx 1 ++ (ringIx 2 ++ (ringIx 3 ++ [28])))) (by decide +kernel) (by decide +kernel),
    bigSepL_append, bigSepL_append, bigSepL_append, bigSepL_append, ringIx_eq, ringIx_eq, ringIx_eq, ringIx_eq, hbar, each_eq, hassoc]

/-- The kernel's own semaphores, as the launch numbers them. -/
def osem (j : Fin 28) : SemLoc sig := semOf j.castSucc

omit [FloatOps F] in
/-- A device's own semaphores and the barrier's, all at zero. -/
theorem sems_eq (c : Dev nD) :
    iprop(Pipeline.ownSems0 (Ix := ℕ) (Name := ℕ) (U := UU) (Lvl := ℕ) (Val := Elt F) (τ := τ) osem c ∗ unscopedSems0 c)
      = (bigSep Finset.univ fun j : Fin 29 => semVal (cellAt (c, j)) 0 : sProp 𝕄) := by
  have hun : (unscopedSems0 c : sProp 𝕄) = semVal (barCell c) 0 := by
    unfold unscopedSems0; rw [bigSep_eq_bigSepL_of_eq [SemLoc.reg barrier0] (by decide) (by decide)]; rfl
  have hu : (Finset.univ : Finset (Fin 29)) = insert 28 ((Finset.univ : Finset (Fin 28)).map Fin.castSuccEmb) := by decide +kernel
  have hb : (semVal (barCell c) 0 : sProp 𝕄) = semVal (cellAt (c, 28)) 0 := by
    unfold cellAt; rw [semOf_bar]
  rw [hun, hu, bigSep_insert (by decide +kernel), bigSep_map, hb]
  exact BI.equiv_iff.mp ⟨BI.sep_comm, BI.sep_comm⟩

/-- Every semaphore of a ring back at zero. -/
theorem ringSems_eq (c : Dev nD) (i : Fin 4) :
    (ringSems c i : sProp 𝕄) = ringOf (fun sm => semVal ((c : Thread nD τ), sm) 0) i := rfl

/-! ## Positions -/

/-- A device's positions at all its semaphores. -/
def positions (c : Dev nD) : sProp 𝕄 := bigSep Finset.univ fun j : Fin 29 => pos (cellAt (c, j)) 0

omit [FloatOps F] in
theorem ringInit_intro (c : Dev nD) (i : Fin 4) : (ringOf (fun sm => pos ((c : Thread nD τ), sm) 0) i : sProp 𝕄) ⊢ ringInit c i := by
  have hC : (pos (credCell c i) 0 : sProp 𝕄) ⊢ posC c i 0 := by
    unfold pos posC
    iintro ⟨H, -⟩
    iexists ∅
    isplitr; · ipureintro; decide
    isplitl [H]; · iexact H
    rw [bigSep_empty]; iempintro
  have hS (m : ℕ) (hm : m < 3) : (pos (sendCell c i (sl m)) 0 : sProp 𝕄) ⊢ sendPos c i m := by
    unfold sendPos; rw [Nat.div_eq_of_lt hm]
  have hR (m : ℕ) (hm : m < 3) : (pos (recvCell c i (sl (m + 1))) 0 : sProp 𝕄) ⊢ recvPos c i m := by
    unfold recvPos; rw [Nat.div_eq_of_lt hm]
  unfold ringOf ringInit
  iintro ⟨⟨H1, H2, H3⟩, ⟨H4, H5, H6⟩, H7⟩
  isplitl [H1 H2 H3]
  · isplitl [H1]; · iapply (hS 0 (by decide)); iexact H1
    isplitl [H2]; · iapply (hS 1 (by decide)); iexact H2
    iapply (hS 2 (by decide)); iexact H3
  isplitl [H4 H5 H6]
  · isplitl [H5]; · iapply (hR 0 (by decide)); iexact H5
    isplitl [H6]; · iapply (hR 1 (by decide)); iexact H6
    iapply (hR 2 (by decide)); iexact H4
  iapply hC; iexact H7

omit [FloatOps F] in
theorem positions_split (c : Dev nD) : (positions c : sProp 𝕄) ⊢ iprop(atPos ER (barCell c) 0 ∅ 0 ∗ each (ringInit c)) := by
  have hp : (positions c : sProp 𝕄) = iprop(each (ringOf fun sm => pos ((c : Thread nD τ), sm) 0) ∗ pos (barCell c) 0) :=
    by_ring fun sm => pos ((c : Thread nD τ), sm) 0
  rw [hp]
  iintro ⟨H, Hb⟩
  isplitl [Hb]
  · unfold pos; icases Hb with ⟨Hb, -⟩; iexact Hb
  · iapply (each_mono (ringInit_intro c)); iexact H

/-! ## The whole mesh -/

/-- What is known of all cells before they are set up, -/
def early : sProp 𝕄 :=
  iprop(bigSep cells (fun g => reached ER g 0) ∗ ∃ J : Key → ℕ, bigSep keys fun k => Release.slotInv ES (J k) k (keySlot k))

omit [FloatOps F] in
instance early_persistent : BI.Persistent (early : sProp 𝕄) := by unfold early; infer_instance

/-- and after. -/
def late : sProp 𝕄 :=
  iprop(∃ (K : GSem nD τ sig → ℕ) (J : Key → ℕ), bigSep cells (fun g => iprop(cellInv ER (Rd X W) (K g) g ∗ reached ER g 0))
    ∗ bigSep keys (fun k => Release.slotInv ES (J k) k (keySlot k)))

instance late_persistent : BI.Persistent (late X W) := by unfold late; infer_instance

/-- What the launch deals a device, -/
def G (c : Dev nD) : sProp 𝕄 :=
  iprop((bigSep Finset.univ fun j : Fin 29 => roundState ER (Rd X W) (cellAt (c, j)) 0) ∗ (positions c ∗ tokens c) ∗ early)

/-- and what it has of it once the cells are set up. -/
def G' (c : Dev nD) : sProp 𝕄 := iprop(late X W ∗ positions c ∗ tokens c)

omit [FloatOps F] in
theorem by_device (A : GSem nD τ sig → sProp 𝕄) :
    bigSep cells A = bigSep Finset.univ fun c : Dev nD => bigSep Finset.univ fun j : Fin 29 => A (cellAt (c, j)) := by
  unfold cells; rw [bigSep_map, bigSep_univ_prod]; rfl

omit [FloatOps F] in
theorem keys_once (A : Key → ℕ → sProp 𝕄) : bigSep (keys ×ˢ Finset.range 1) (fun x => A x.1 (x.2 + 1)) = bigSep keys fun k => A k 1 := by
  rw [Finset.range_one, Finset.product_singleton, bigSep_map]; rfl

theorem fund_all :
    iprop(BI.own (ER (initOf cells allDuties)) ∗ BI.own (ES (Release.initSlots keys 1)))
      ⊢ |={Set.univ}=> (bigSep Finset.univ (G X W) : sProp 𝕄) := by
  iintro ⟨HR, HS⟩
  imod (Rounds.fund ER (Rd X W) cells allDuties) $$ HR with ⟨Hst, #Hr, Hat, Htok⟩
  imod (Release.slots_init ES keys 1 keySlot) $$ HS with ⟨%J, -, #HJ, Hrd, Hwr⟩
  imodintro
  ihave Hst := (Entails.of_eq (by_device fun g => roundState ER (Rd X W) g 0)) $$ Hst
  ihave Hpos := (show iprop(bigSep cells (fun g => atPos ER g 0 ∅ 0) ∗ bigSep cells (fun g => reached ER g 0))
      ⊢ (bigSep Finset.univ (fun c => positions c) : sProp 𝕄) from by
    rw [← bigSep_sep', by_device]; exact BI.Entails.refl _) $$ [Hat]
  · isplitl [Hat]; · iexact Hat
    iexact Hr
  ihave Hwr := (Entails.of_eq (keys_once fun k n => Release.writeTok ES k n)) $$ Hwr
  ihave Htok := (tokens_intro (F := F)) $$ [Htok Hrd Hwr]
  · isplitl [Htok]; · iexact Htok
    isplitl [Hrd] <;> iassumption
  unfold G
  simp only [bigSep_sep']
  isplitl [Hst]; · iexact Hst
  isplitl [Hpos Htok]
  · isplitl [Hpos] <;> iassumption
  iapply (BI.bigSep_of_persistent Finset.univ (early (F := F)))
  unfold early
  isplitr; · iexact Hr
  iexists J; iexact HJ

/-- The global step: all devices' semaphores become the protocol's cells. -/
theorem glob : (bigSep Finset.univ fun c => iprop(Pipeline.ownSems0 (Ix := ℕ) (Name := ℕ) (U := UU) (Lvl := ℕ) (Val := Elt F) (τ := τ) osem c
      ∗ unscopedSems0 c ∗ G X W c) : sProp 𝕄)
    ⊢ |={Set.univ}=> bigSep Finset.univ (G' X W) := by
  have h1 (c : Dev nD) : iprop(Pipeline.ownSems0 (Ix := ℕ) (Name := ℕ) (U := UU) (Lvl := ℕ) (Val := Elt F) (τ := τ) osem c ∗ unscopedSems0 c ∗ G X W c)
      ⊢ iprop((bigSep Finset.univ fun j : Fin 29 => semVal (cellAt (c, j)) 0)
        ∗ (bigSep Finset.univ fun j : Fin 29 => roundState ER (Rd X W) (cellAt (c, j)) 0) ∗ (positions c ∗ tokens c) ∗ early) := by
    rw [← sems_eq]; unfold G
    iintro ⟨H1, H2, H3⟩
    isplitl [H1 H2]
    · isplitl [H1] <;> iassumption
    iexact H3
  have h2 : iprop((bigSep cells fun g => semVal g 0) ∗ (bigSep cells fun g => roundState ER (Rd X W) g 0))
      ⊢ |={Set.univ}=> (iprop(∃ K : GSem nD τ sig → ℕ, bigSep cells fun g => cellInv ER (Rd X W) (K g) g) : sProp 𝕄) :=
    ((Rounds.bodies_intro ER (Rd X W) cells).trans ((bigSep_mono fun g _ => inv_alloc).trans (bigSep_fupd _ _))).trans
      (BI.fupd_mono (BI.bigSep_exists_pi cells fun g κ => cellInv ER (Rd X W) κ g))
  have h3 : (bigSep Finset.univ fun c : Dev nD => iprop((bigSep Finset.univ fun j : Fin 29 => semVal (cellAt (c, j)) 0)
        ∗ (bigSep Finset.univ fun j : Fin 29 => roundState ER (Rd X W) (cellAt (c, j)) 0) ∗ (positions c ∗ tokens c) ∗ early))
      = (iprop((bigSep cells fun g => semVal g 0) ∗ (bigSep cells fun g => roundState ER (Rd X W) g 0)
        ∗ (bigSep Finset.univ fun c : Dev nD => iprop(positions c ∗ tokens c)) ∗ bigSep Finset.univ fun _ : Dev nD => early) : sProp 𝕄) := by
    rw [bigSep_sep', bigSep_sep', bigSep_sep', ← by_device fun g => semVal g 0, ← by_device fun g => roundState ER (Rd X W) g 0]
  refine ((bigSep_mono fun c _ => h1 c).trans (Entails.of_eq h3)).trans ?_
  show iprop((bigSep cells fun g => semVal g 0) ∗ (bigSep cells fun g => roundState ER (Rd X W) g 0)
        ∗ (bigSep Finset.univ fun c : Dev nD => iprop(positions c ∗ tokens c)) ∗ bigSep Finset.univ fun _ : Dev nD => early)
      ⊢ |={Set.univ}=> (bigSep Finset.univ (G' X W) : sProp 𝕄)
  iintro ⟨Hv, Hst, Hlin, He⟩
  imod h2 $$ [Hv Hst] with ⟨%K, #HK⟩
  · isplitl [Hv] <;> iassumption
  ihave #He := (show bigSep Finset.univ (fun _ : Dev nD => early) ⊢ (early : sProp 𝕄) from bigSep_elim (Finset.mem_univ (0 : Dev nD))) $$ He
  imodintro
  unfold G'
  iapply (show iprop(late X W ∗ bigSep Finset.univ fun c => iprop(positions c ∗ tokens c)) ⊢ bigSep Finset.univ fun c => iprop(late X W ∗ positions c ∗ tokens c) from
    BI.bigSep_with_persistent fun c _ => BI.Entails.refl _)
  isplitr
  · unfold late early
    icases He with ⟨#Hr, %J, #HJ⟩
    iexists K, J
    isplitr
    · rw [bigSep_sep']
      isplitr; · iexact HK
      iexact Hr
    · iexact HJ
  · iexact Hlin

end Cert.Proof

end
-- ==== Proof.Slots.lean ====
/-
  The slot buffers of the four rings, cut into their three slots when the kernel starts and joined again when it ends.
-/
module

public import proofs.«01_k».proof.Proof.Body

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util

variable {F : FTy → Type} [FloatOps F]

local notation "𝕄" => MT nD τ sig ℕ (Elt F) ℕ UU ℕ

/-- The elements of slot `s`. -/
abbrev slotSet (i : Fin 4) (s : Fin 3) : Finset (comm i).view.ty.Idx := (slotM i s).view.set

theorem slotSet_eq (i : Fin 4) (s : Fin 3) : slotSet i s = (slotRect s).set.map (comm i).view.emb :=
  (View.set_reshape _ _).trans (View.set_slice _ _)

theorem slotRect_disjoint (s t : Fin 3) (h : s ≠ t) : Disjoint (slotRect s).set (slotRect t).set := by
  refine Rect.unit_disjoint 0 ?_
  have h' : s.val ≠ t.val := fun e => h (Fin.ext e)
  show s.val + 1 ≤ t.val ∨ t.val + 1 ≤ s.val
  omega

theorem slot_disjoint (i : Fin 4) (s t : Fin 3) (h : s ≠ t) : Disjoint (slotSet i s) (slotSet i t) := by
  rw [slotSet_eq, slotSet_eq]; exact (Finset.disjoint_map _).mpr (slotRect_disjoint s t h)

theorem slotRect_cover (x : S3x256x2048.Idx) : ∃ s, x ∈ (slotRect s).set := by
  refine ⟨x 0, Rect.mem_set_unit.mpr fun a => ?_⟩
  have ha := (x a).isLt
  fin_cases a
  · exact ⟨Nat.le_refl _, Nat.lt_succ_self _⟩
  · exact ⟨Nat.zero_le _, by simpa using ha⟩
  · exact ⟨Nat.zero_le _, by simpa using ha⟩

theorem comm_set : ∀ i, (comm i).view.set = Finset.univ
  | 0 => View.set_whole _
  | 1 => View.set_whole _
  | 2 => View.set_whole _
  | 3 => View.set_whole _

theorem slot_cover (i : Fin 4) : Finset.univ.biUnion (slotSet i) = Finset.univ := by
  rw [← comm_set i]
  ext y
  simp only [Finset.mem_biUnion, Finset.mem_univ, true_and]
  constructor
  · rintro ⟨s, hs⟩
    rw [slotSet_eq] at hs
    obtain ⟨x, -, rfl⟩ := Finset.mem_map.mp hs
    exact Finset.mem_map.mpr ⟨x, Finset.mem_univ _, rfl⟩
  · intro hy
    obtain ⟨x, -, rfl⟩ := Finset.mem_map.mp hy
    obtain ⟨s, hs⟩ := slotRect_cover x
    exact ⟨s, by rw [slotSet_eq]; exact Finset.mem_map.mpr ⟨x, hs, rfl⟩⟩

/-- A ring's whole buffer, at whatever it holds. -/
def held (c : Dev nD) (i : Fin 4) : sProp 𝕄 :=
  iprop(∃ f : Buf (Elt F) ((comm i).view.loc (c : Thread nD τ)), (comm i).view.loc (c : Thread nD τ) ↦{fullShare} f)

omit [FloatOps F] in
theorem three (A : Fin 3 → sProp 𝕄) : bigSep Finset.univ A = iprop(A 0 ∗ A 1 ∗ A 2) :=
  bigSep_univ_eq_bigSepL [(0 : Fin 3), 1, 2] (by decide) (by decide) A

omit [FloatOps F] in
theorem slots_three (c : Dev nD) (i : Fin 4) : (slots c i : sProp 𝕄) = bigSep Finset.univ fun s => slotAny c i s := by
  rw [three]; rfl

omit [FloatOps F] in
theorem slotAny_of (c : Dev nD) (i : Fin 4) (s : Fin 3) (f : Buf (Elt F) ((comm i).view.loc (c : Thread nD τ))) :
    ((comm i).view.loc (c : Thread nD τ) ↦[slotSet i s]{fullShare} f : sProp 𝕄) ⊢ slotAny c i s := by
  unfold slotAny Release.slot
  iintro H; iexists f; iexact H

/-- A slot by its buffer. -/
def slotOf (c : Dev nD) (i : Fin 4) (s : Fin 3) : sProp 𝕄 :=
  iprop(∃ f : Buf (Elt F) ((comm i).view.loc (c : Thread nD τ)), (comm i).view.loc (c : Thread nD τ) ↦[slotSet i s]{fullShare} f)

omit [FloatOps F] in
theorem slotAny_slotOf (c : Dev nD) (i : Fin 4) (s : Fin 3) : (slotAny c i s : sProp 𝕄) = slotOf c i s := rfl

omit [FloatOps F] in
theorem slotOf_dup (c : Dev nD) (i : Fin 4) (s : Fin 3) :
    (slotOf c i s : sProp 𝕄) ⊢ iprop(∃ _ : Buf (Elt F) ((comm i).view.loc (c : Thread nD τ)), slotOf c i s) := by
  unfold slotOf
  iintro ⟨%f, H⟩
  iexists f, f; iexact H

omit [FloatOps F] in
/-- Cutting it, -/
theorem held_split (c : Dev nD) (i : Fin 4) : (held c i : sProp 𝕄) ⊢ slots c i := by
  rw [slots_three]; unfold held
  iintro ⟨%f, H⟩
  ihave H := (Entails.of_eq (Ring.pointsTo_blocks (slotSet i) (slot_disjoint i) (slot_cover i) f)) $$ H
  iapply (show bigSep Finset.univ (fun s => ((comm i).view.loc (c : Thread nD τ) ↦[slotSet i s]{fullShare} f : sProp 𝕄))
      ⊢ bigSep Finset.univ (fun s => slotAny c i s) from bigSep_mono fun s _ => slotAny_of c i s f)
  iexact H

omit [FloatOps F] in
/-- and joining it. -/
theorem held_join (c : Dev nD) (i : Fin 4) : (slots c i : sProp 𝕄) ⊢ held c i := by
  have h0 : (slots c i : sProp 𝕄) = iprop(slotOf c i 0 ∗ slotOf c i 1 ∗ slotOf c i 2) := by
    unfold slots pair; simp only [slotAny_slotOf]
  have h1 (f : Buf (Elt F) ((comm i).view.loc (c : Thread nD τ))) :
      iprop(slotOf c i 0 ∗ slotOf c i 1 ∗ slotOf c i 2) ⊢ (held c i : sProp 𝕄) := by
    rw [← three fun s => slotOf c i s]
    unfold held slotOf
    exact Ring.pointsTo_blocks_join_exists (ℓ := (comm i).view.loc (c : Thread nD τ)) (slotSet i) (slot_disjoint i) (slot_cover i) f
  rw [h0]
  iintro ⟨H0, H⟩
  ihave ⟨%f, H0⟩ := (slotOf_dup c i 0) $$ H0
  iapply (h1 f)
  isplitl [H0] <;> iassumption

omit [FloatOps F] in
/-- The launch's scratch buffers are the rings' buffers. -/
theorem scratch_eq (c : Dev nD) :
    (Pipeline.scopedRest (Ix := ℕ) (Name := ℕ) (U := UU) (Lvl := ℕ) (Val := Elt F) spec0 c : sProp 𝕄) = each (held c) := by
  rw [scopedRest0_eq, each_eq]; rfl

omit [FloatOps F] in
theorem scratch_split (c : Dev nD) :
    (Pipeline.scopedRest (Ix := ℕ) (Name := ℕ) (U := UU) (Lvl := ℕ) (Val := Elt F) spec0 c : sProp 𝕄) ⊢ each (slots c) := by
  rw [scratch_eq]; exact each_mono (held_split c)

omit [FloatOps F] in
theorem scratch_join (c : Dev nD) :
    each (slots c) ⊢ (Pipeline.scopedRest (Ix := ℕ) (Name := ℕ) (U := UU) (Lvl := ℕ) (Val := Elt F) spec0 c : sProp 𝕄) := by
  rw [scratch_eq]; exact each_mono (held_join c)

end Cert.Proof

end
-- ==== Proof.Run.lean ====
/-
  The run of the whole mesh, for any float values: it ends, with every device's result the finished sums of its rings, its
  inputs unchanged, and every semaphore at zero.
-/
module

public import proofs.«01_k».proof.Proof.Deal
public import proofs.«01_k».proof.Proof.Slots
public import Idealize.ShloMosaic.Lib.Pipeline.CollectiveSegs

@[expose] public section

noncomputable section

namespace Cert.Proof

open Cert.KernelIdeal Cert.KernelIdeal.Gen

open Idealize.ShloMosaic Idealize.ShloMosaic.TcCoe
open Idealize.ShloMosaic.Rounds
open Idealize.SL Idealize.SL.RA Idealize.SL.BI
open scoped Idealize.SL.BI
open Idealize.SL.BI.BIBase Idealize.SL.Sem Idealize.SL.Util
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The state the run starts from. -/
def s₀ : MemSt nD τ sig (Elt F) := ⟨m, fun _ => 0, ρ⟩

/-- Device `c`'s part of `x`, -/
def xIn (c : Dev nD) : S4096x256.Idx → Elt F .bf16 :=
  (win0_0.blk (0 : Fin 1)).view.read (Elt F) ((s₀ m ρ).mem ((c : Thread nD τ).loc main_arg0))

/-- and of `w`. -/
def wIn (c : Dev nD) : S256x8192.Idx → Elt F .bf16 :=
  (win0_1.blk (0 : Fin 1)).view.read (Elt F) ((s₀ m ρ).mem ((c : Thread nD τ).loc main_arg1))

/-- What it writes. -/
def yOut (c : Dev nD) : S256x8192.Idx → Elt F .f32 := outOf (result (xIn m ρ) (wIn m ρ) c)

/-! ## What a device starts from, and what it ends with -/

def start (c : Dev nD) : sProp 𝕄 :=
  iprop(late (xIn m ρ) (wIn m ρ) ∗ levAts L lv ∗ (positions c ∗ tokens c) ∗ promised c)

/-- What the body's proof asks for. -/
def ready (c : Dev nD) : sProp 𝕄 :=
  iprop((∃ K J, known (xIn m ρ) (wIn m ρ) K J) ∗ barRes c ∗ each (ringInit c) ∗ each (firstTok c) ∗ midRes c)

omit [FloatOps F] in
theorem midRes_eq (c : Dev nD) : (midRes c : sProp 𝕄)
    = iprop((bigSep (Finset.Ico 1 14) fun h => each fun i => sendTok c i (h + 1)) ∗ (bigSep (Finset.Ico 1 14) fun h => each fun i => handTok c i h)
      ∗ (bigSep (Finset.Ico 1 14) fun h => each fun i => recvCred c i h) ∗ bigSep (Finset.Ico 1 14) fun h => each fun i => credCred c i h) := by
  unfold midRes stepRes each
  rw [← bigSep_sep', ← bigSep_sep', ← bigSep_sep']
  exact bigSep_congr fun h _ => by rw [bigSep_sep', bigSep_sep', bigSep_sep']

omit [FloatOps F] in
theorem firstTok_eq (c : Dev nD) : (each (firstTok c) : sProp 𝕄)
    = iprop((each (fun i => sendTok c i 0) ∗ each fun i => sendTok c i 1) ∗ (each (fun i => recvCred c i 0) ∗ each fun i => recvCred c i 14)) := by
  unfold firstTok each
  rw [bigSep_sep', bigSep_sep', bigSep_sep']

theorem ready_intro (c : Dev nD) : start m ρ c ⊢ ready m ρ c := by
  unfold start ready barRes
  rw [midRes_eq, firstTok_eq]
  unfold tokens promised late
  rw [messages_after fun m => each fun i => sendTok c i m, bigSep_sep']
  iintro ⟨⟨%K, %J, #HK, #HJ⟩, #Hlev, ⟨Hpos, ⟨HtL, HtR⟩, ⟨Hs0, Hs1, Hs⟩, Hh⟩, Hbar, ⟨Hr0, Hr14⟩, Hr, Hc⟩
  ihave ⟨Hb, Hpos⟩ := (positions_split c) $$ Hpos
  isplitr
  · iexists K, J
    unfold known
    isplitr; · iexact Hlev
    isplitr; · iexact HK
    iexact HJ
  isplitl [Hb HtL HtR Hbar]
  · isplitl [Hb]; · iexact Hb
    isplitl [HtL]; · iexact HtL
    isplitl [HtR] <;> iassumption
  isplitl [Hpos]; · iexact Hpos
  isplitl [Hs0 Hs1 Hr0 Hr14]
  · isplitl [Hs0 Hs1]
    · isplitl [Hs0] <;> iassumption
    isplitl [Hr0] <;> iassumption
  isplitl [Hs]; · iexact Hs
  isplitl [Hh]; · iexact Hh
  isplitl [Hr] <;> iassumption

def Φ₀ (c : Dev nD) : sProp 𝕄 := iprop(ready m ρ c ∗ each (slots c))

def Φ₁ (c : Dev nD) : sProp 𝕄 := iprop(semVal (barCell c) 0 ∗ each (fun i => iprop(ringSems c i ∗ slots c i)))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => yOut m ρ c
  Φ t := match t with
    | ⟨0, _⟩ => Φ₀ m ρ c
    | ⟨_ + 1, _⟩ => Φ₁ c
  q _ := fullShare
  owed t := match t with
    | ⟨0, _⟩ => owesL dues c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

omit [FloatOps F] in
theorem owns_whole_eq (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staging buffer at known contents. -/
def stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

omit [FloatOps F] in
theorem stg_elim (c : Dev nD) (b : Ref sig .tc) (V : b.ty.Contents (Elt F)) :
    (stg c b V : sProp 𝕄) ⊢ (((c : Thread nD τ).loc b) ↦{fullShare} (V : Buf (Elt F) (((c : Dev nD) : Thread nD τ).loc b))) := by
  unfold stg
  iintro ⟨%f, %hf, H⟩
  subst hf
  iexact H

omit [FloatOps F] in
theorem stg_intro (c : Dev nD) (b : Ref sig .tc) (V : b.ty.Contents (Elt F)) :
    (((c : Thread nD τ).loc b) ↦{fullShare} (V : Buf (Elt F) (((c : Dev nD) : Thread nD τ).loc b)) : sProp 𝕄) ⊢ stg c b V := by
  unfold stg
  iintro H
  iexists V
  isplitr; · ipureintro; rfl
  iexact H

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (xIn m ρ c) ∗ stg c cc0_stg1_0 (wIn m ρ c) ∗ stg c cc0_stg2_0 (yOut m ρ c))

theorem before_x (c : Dev nD) (d) : (dats m ρ 0 c).before (0 : Fin 3) t0_0 d = xIn m ρ c := by
  unfold Dat.before; rw [if_pos (fetch_x t0_0)]; rfl
theorem before_w (c : Dev nD) (d) : (dats m ρ 0 c).before (1 : Fin 3) t0_0 d = wIn m ρ c := by
  unfold Dat.before; rw [if_pos (fetch_w t0_0)]; rfl

omit [FloatOps F] in
/-- The result's buffer before anything is written, -/
theorem out_intro (c : Dev nD) (g : Fin 4 → S256x2048.Idx → Elt F .f32) (f : S256x8192.Idx → Elt F .f32) :
    (((c : Thread nD τ).loc cc0_stg2_0) ↦{fullShare} (f : Buf (Elt F) ((c : Thread nD τ).loc cc0_stg2_0)) : sProp 𝕄) ⊢ holdsOut c g 0 := by
  unfold holdsOut
  iintro H
  iexists f
  isplitr
  · ipureintro; intro x hx; rw [Nat.zero_mul] at hx; exact absurd hx (Nat.not_lt_zero _)
  · iexact H

omit [FloatOps F] in
/-- and once all four quarters are. -/
theorem out_elim (c : Dev nD) (g : Fin 4 → S256x2048.Idx → Elt F .f32) :
    (holdsOut c g 4 : sProp 𝕄) ⊢ stg c cc0_stg2_0 (outOf g) := by
  unfold holdsOut
  iintro ⟨%f, %hf, H⟩
  have h : f = outOf g := funext fun x => hf x (x 1).isLt
  subst h
  iapply (stg_intro c cc0_stg2_0 (outOf g)); iexact H

theorem body_sound (c : Dev nD) : bodyPre m ρ c ⊢ runs c (body (F := F)) (fun _ => bodyPost m ρ c) := by
  have hpre : (dats m ρ 0 c).owesAt 0 t0_0.castSucc ⊢ (due c dues : sProp 𝕄) := by
    unfold Dat.owesAt Pipeline.owesWithin due
    rw [show (dats m ρ 0 c).owed t0_0.castSucc = owesL dues c from rfl]
    iintro ⟨%B, -, H⟩
    iexists B; iexact H
  have hpost : (due c [] : sProp 𝕄) ⊢ (dats m ρ 0 c).owesAt 0 t0_0.succ := by
    unfold Dat.owesAt Pipeline.owesWithin due
    rw [show (dats m ρ 0 c).owed t0_0.succ = owesL [] c from rfl]
    iintro ⟨%B, H⟩
    iexists B
    isplitr; · ipureintro; exact fun _ _ => Or.inl trivial
    iexact H
  unfold bodyPre Φ₀ ready
  iintro ⟨⟨⟨⟨%K, %J, #HK⟩, Hbar, Hinit, Hfirst, Hmid⟩, Hslots⟩, Ho, ⟨%dx, Hx⟩, ⟨%dw, Hw⟩, ⟨%dy, Hy⟩⟩
  ihave Ho := hpre $$ Ho
  rw [before_x, before_w]
  ihave Hx := (stg_elim c cc0_stg0_0 _) $$ Hx
  ihave Hw := (stg_elim c cc0_stg1_0 _) $$ Hw
  ihave Hy := (stg_elim c cc0_stg2_0 _) $$ Hy
  ihave Hy := (out_intro c (result (xIn m ρ) (wIn m ρ) c) _) $$ Hy
  iapply (body_run (xIn m ρ) (wIn m ρ) K J c (fun _ => bodyPost m ρ c)) $$ [Hbar Hinit Hfirst Hmid Hslots Ho Hx Hw Hy]
  · isplitr; · iexact HK
    isplitl [Ho]; · iexact Ho
    isplitl [Hx Hw]
    · unfold holds; isplitl [Hx] <;> iassumption
    isplitl [Hy]; · iexact Hy
    isplitl [Hbar]; · iexact Hbar
    isplitl [Hinit]; · iexact Hinit
    isplitl [Hfirst]; · iexact Hfirst
    isplitl [Hmid] <;> iassumption
  unfold holds
  iintro ⟨Ho, ⟨Hx, Hw⟩, Hy, Hb, Hr⟩
  unfold bodyPost Φ₁
  isplitl [Hb Hr]
  · isplitl [Hb] <;> iassumption
  isplitl [Ho]; · iapply hpost; iexact Ho
  isplitl [Hx]; · iapply (stg_intro c cc0_stg0_0 _); iexact Hx
  isplitl [Hw]; · iapply (stg_intro c cc0_stg1_0 _); iexact Hw
  unfold yOut
  iapply (out_elim c _); iexact Hy

set_option maxRecDepth 40000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ runs c (bodyAt0 t0_0) (fun _ => bodyPost m ρ c)
  rw [body_eq]
  exact body_sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf cells allDuties, Release.initSlots keys 1))

theorem ghost_split : (ownU u₀ : sProp 𝕄)
    ⊢ iprop(BI.own (EP (initOf (Pipeline.cells cfgs cellOf_inj) (Pipeline.launchToks cfgs cellOf_inj)))
      ∗ BI.own (ER (initOf cells allDuties)) ∗ BI.own (ES (Release.initSlots keys 1))) := by
  have h1 : (ownU u₀ : sProp 𝕄)
      ⊢ iprop(BI.own (EP (initOf (Pipeline.cells cfgs cellOf_inj) (Pipeline.launchToks cfgs cellOf_inj)))
        ∗ BI.own ((inRest.trans (uEmb (nD := nD) (sig := sig) (Ix := ℕ) (Val := Elt F) (Name := ℕ) (U := UU) (Lvl := ℕ)).toEmb)
          (initOf cells allDuties, Release.initSlots keys 1))) :=
    BI.own_op_elim ((uEmb (nD := nD) (sig := sig) (Ix := ℕ) (Val := Elt F) (Name := ℕ) (U := UU) (Lvl := ℕ)).toEmb.op_of_mem
      (Prod.mk_mem_op (URA.mem_op_one _) (URA.mem_one_op _)))
  refine h1.trans (BI.Laws.sep_mono_right ?_)
  exact own_pair_emb _ _ _

theorem start_intro (c : Dev nD) :
    iprop(Pipeline.unscopedRestP Pipeline.Prefetch.none cfg0.spec c (fun b => m ((c : Thread nD τ).loc b)) ∗ levAts L lv
        ∗ Pipeline.launchCred (owesL dues) c ∗ prngReg c (ρ c) ∗ G' (xIn m ρ) (wIn m ρ) c)
      ⊢ |={Set.univ}=> iprop(start m ρ c ∗ emp) := by
  iintro ⟨-, #Hlev, Hcr, -, HG⟩
  ihave Hcr := (promised_intro c) $$ Hcr
  imodintro
  unfold start G'
  icases HG with ⟨#Hlate, Hlin⟩
  isplitl
  · isplitr; · iexact Hlate
    isplitr; · iexact Hlev
    isplitl [Hlin] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]
  · iapply (ready_intro m ρ c); iexact Hs
  · iapply (scratch_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  have hsems : iprop(semVal (barCell c) 0 ∗ each (ringSems c))
      ⊢ (iprop(unscopedSems0 c ∗ Pipeline.ownSems0 (Ix := ℕ) (Name := ℕ) (U := UU) (Lvl := ℕ) (Val := Elt F) (τ := τ) osem c) : sProp 𝕄) := by
    have h := (by_ring fun sm => (semVal ((c : Thread nD τ), sm) 0 : sProp 𝕄)).symm.trans (sems_eq c).symm
    iintro ⟨Hb, Hr⟩
    ihave ⟨H1, H2⟩ := (Entails.of_eq h) $$ [Hb Hr]
    · isplitl [Hr]; · iexact Hr
      iexact Hb
    isplitl [H2] <;> iassumption
  rw [show (dats m ρ 0 c).Φ (Fin.last cfg0.N) = Φ₁ c from rfl]
  unfold Φ₁
  iintro ⟨Hb, Hr⟩
  ihave ⟨Hr, Hs⟩ := (each_unzip (ringSems c) (slots c)) $$ Hr
  ihave ⟨Hu, Ho⟩ := hsems $$ [Hb Hr]
  · isplitl [Hb] <;> iassumption
  isplitl [Hu]; · iexact Hu
  isplitl [Ho]; · iexact Ho
  iapply (scratch_join c); iexact Hs

/-- Everything a device owes lies above level 0. -/
theorem above_dues : Above 0 dues := by
  refine .cons ⟨by decide, by decide⟩ (.cons ⟨by decide, by decide⟩ (above_send (by decide) (by decide) (above_send (by decide) (by decide) ?_)))
  exact (above_mid 13 1 (by decide)).mono (by decide)

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 dues (by decide) above_dues
    · exact mayWait c _ 0 [] (by decide) (.nil 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with all semaphores at zero, every fair run of the program on the sixteen devices ends; then every
    device's arrays hold what `finalA` says and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owesL dues) (howed₀ := fun _ => rfl) (howedN := fun _ => rfl)
    (L := L) (lv := lv) (hL := L_of_ne) (hwaits := waits m ρ)
    (G := G (xIn m ρ) (wIn m ρ)) (G' := G' (xIn m ρ) (wIn m ρ)) (u₀ := u₀)
    (hu₀ := by
      iintro Hu
      ihave ⟨HP, HR⟩ := (ghost_split (F := F)) $$ Hu
      imod (fund_all (xIn m ρ) (wIn m ρ)) $$ HR with HG
      imodintro
      isplitl [HP] <;> iassumption)
    (hglob := glob (xIn m ρ) (wIn m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and `w` after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Proof

end
-- ==== Proof.Sums.lean ====
/-
  What the rings compute over the extended reals: every message is a sum of partial products, one for each device it has
  passed, and the finished block is the sum over all sixteen devices.
-/
module

public import proofs.«01_k».proof.Proof.Blocks
public import Idealize.ShloMosaic.Lib.MatmulPlain
public import Idealize.ShloMosaic.Lib.ValueIdx

@[expose] public section

noncomputable section

namespace Cert.Proof

open Cert.KernelIdeal Cert.KernelIdeal.Gen

open Idealize.ShloMosaic Idealize.ShloMosaic.TcCoe Idealize.ShloMosaic.ValueIdx

/-! ## Where the rings lead -/

/-- The device `n` places up ring `i`. -/
def above (i : Fin 4) (n : ℕ) (c : Dev nD) : Dev nD := (fun d => upDev d i)^[n] c

theorem above_up (i : Fin 4) (n : ℕ) (c : Dev nD) : above i n (upDev c i) = above i (n + 1) c := rfl

/-- After sixteen places a ring is back where it began, -/
theorem above_round (i : Fin 4) (c : Dev nD) : above i 16 c = c := by revert i c; decide +kernel

/-- and on the way it meets every device once. -/
theorem above_bijective (i : Fin 4) (c : Dev nD) : Function.Bijective fun n : Fin 16 => above i n.val c := by
  refine (Finite.injective_iff_bijective (α := Fin 16)).mp ?_
  revert i c; decide +kernel

/-- The half of the columns that ring `i` works on. -/
def sideOf (i : Fin 4) : Fin 2 := ⟨i.val / 2, by omega⟩

/-- At step `h` a device multiplies the rows of the device `h + 2` places up, -/
theorem stepOff_eq (c : Dev nD) (i : Fin 4) (h : Fin 15) :
    stepOff c h.val (sideOf i) 0 = 256 * (above i (h.val + 2) c).val ∧ stepOff c h.val (sideOf i) 1 = 0 := by
  revert c i h; decide +kernel

/-- and at first those of its upper neighbour. -/
theorem firstOff_eq (c : Dev nD) (i : Fin 4) :
    firstOff c (sideOf i) 0 = 256 * (above i 1 c).val ∧ firstOff c (sideOf i) 1 = 0 := by
  revert c i; decide +kernel

/-! ## One partial product -/

section Entries

variable (X : Dev nD → S4096x256.Idx → EReal) (W : Dev nD → S256x8192.Idx → EReal)

/-- Row `r` of device `t`'s rows, -/
def rowOf (t : Dev nD) (r : Fin 256) : Fin 4096 := ⟨256 * t.val + r.val, by have ht : t.val < 16 := t.isLt; have := r.isLt; omega⟩

/-- and column `q` of ring `i`'s columns. -/
def colAt (i : Fin 4) (q : Fin 2048) : Fin 8192 := ⟨i.val * 2048 + q.val, by have := i.isLt; have := q.isLt; omega⟩

/-- What device `d` contributes to an element of device `t`'s result: its 256 columns of `x` against its 256 rows of `w`. -/
def share (d t : Dev nD) (i : Fin 4) (r : Fin 256) (q : Fin 2048) : EReal :=
  ∑ k : Fin 256, X d (ix2 (rowOf t r) k) * W d (ix2 k (colAt i q))

end Entries

/-- A product of two blocks, read at an element. -/
theorem dotOf_apply (x : Vec Ideal S256x256 .bf16) (w : Vec Ideal S256x4096 .bf16) (r : Fin 256) (q : Fin 4096) :
    dotOf (F := Ideal) x w (ix2 r q) = ∑ k : Fin 256, x (ix2 r k) * w (ix2 k q) := by
  unfold dotOf
  rw [shapeCast_self, shapeCast_self]
  refine (Ideal.matmul_plain_apply (M := 256) (K := 256) (N := 4096) (φ₁ := .bf16) (φ₂ := .bf16) none x w _ r q).trans ?_
  rw [constant_apply, Ideal.ofBits_zero_f32, zero_add]

variable (X : Dev nD → S4096x256.Idx → Elt Ideal .bf16) (W : Dev nD → S256x8192.Idx → Elt Ideal .bf16)

theorem blockX_apply (c t : Dev nD) (off : Fin 2 → Nat) (h : ∀ a, off a + S256x256.size a ≤ S4096x256.size a)
    (h0 : off 0 = 256 * t.val) (h1 : off 1 = 0) (r : Fin 256) (k : Fin 256) :
    blockX X c off h (ix2 r k) = X c (ix2 (rowOf t r) k) := by
  refine (show blockX X c off h (ix2 r k) = X c _ from rfl).trans (congrArg (X c) ?_)
  funext a; apply Fin.ext
  match a with
  | ⟨0, _⟩ => show off 0 + 1 * r.val = 256 * t.val + r.val; omega
  | ⟨1, _⟩ => show off 1 + 1 * k.val = k.val; omega

theorem halfW_apply (c : Dev nD) (j : Fin 2) (k : Fin 256) (q : Fin 4096) (p : Fin 8192) (hp : p.val = j.val * 4096 + q.val) :
    halfW W c j (ix2 k q) = W c (ix2 k p) := by
  refine (show halfW W c j (ix2 k q) = W c _ from rfl).trans (congrArg (W c) ?_)
  funext a; apply Fin.ext
  match a with
  | ⟨0, _⟩ => show 0 + 1 * k.val = k.val; omega
  | ⟨1, _⟩ => show j.val * 4096 + 1 * q.val = p.val; omega

theorem prodOf_apply (c t : Dev nD) (off : Fin 2 → Fin 2 → Nat) (h : ∀ j a, off j a + S256x256.size a ≤ S4096x256.size a)
    (j : Fin 2) (h0 : off j 0 = 256 * t.val) (h1 : off j 1 = 0) (i : Fin 4) (r : Fin 256) (q : Fin 2048) (p : Fin 4096)
    (hp : j.val * 4096 + p.val = i.val * 2048 + q.val) :
    prodOf X W c off h j (ix2 r p) = share X W c t i r q := by
  unfold prodOf share
  rw [dotOf_apply]
  refine Finset.sum_congr rfl fun k _ => ?_
  rw [blockX_apply X c t (off j) (h j) h0 h1, halfW_apply W c j k p (colAt i q) hp.symm]

/-- Which half of its side's columns ring `i` takes. -/
def halfAt (i : Fin 4) : Fin 2 := ⟨i.val % 2, by omega⟩

theorem ringPart_eq {e : EltTy} (a b : S256x4096.Idx → Elt Ideal e) (i : Fin 4) :
    ringPart a b i = halfOf (halfAt i) (if sideOf i = 0 then a else b) := by
  fin_cases i <;> rfl

theorem halfOf_apply {e : EltTy} (v : S256x4096.Idx → Elt Ideal e) (j : Fin 2) (r : Fin 256) (q : Fin 2048) (p : Fin 4096)
    (hp : p.val = j.val * 2048 + q.val) : halfOf j v (ix2 r q) = v (ix2 r p) := by
  refine (show halfOf j v (ix2 r q) = v _ from rfl).trans (congrArg v ?_)
  funext a; apply Fin.ext
  match a with
  | ⟨0, _⟩ => show 0 + r.val = r.val; omega
  | ⟨1, _⟩ => show j.val * 2048 + q.val = p.val; omega

theorem part_apply (c t : Dev nD) (off : Fin 2 → Fin 2 → Nat) (h : ∀ j a, off j a + S256x256.size a ≤ S4096x256.size a)
    (i : Fin 4) (h0 : off (sideOf i) 0 = 256 * t.val) (h1 : off (sideOf i) 1 = 0) (r : Fin 256) (q : Fin 2048) :
    ringPart (F := Ideal) (e := .f32) (prodOf X W c off h 0) (prodOf X W c off h 1) i (ix2 r q) = share X W c t i r q := by
  have hi := i.isLt
  have hq := q.isLt
  rw [ringPart_eq, halfOf_apply _ (halfAt i) r q ⟨i.val % 2 * 2048 + q.val, by omega⟩ rfl,
    show (if sideOf i = 0 then prodOf X W c off h 0 else prodOf X W c off h 1) = prodOf X W c off h (sideOf i) from by
      fin_cases i <;> rfl]
  refine prodOf_apply X W c t off h (sideOf i) h0 h1 i r q _ ?_
  show i.val / 2 * 4096 + (i.val % 2 * 2048 + q.val) = i.val * 2048 + q.val
  omega

theorem ownPart_apply (c : Dev nD) (i : Fin 4) (h : Fin 15) (r : Fin 256) (q : Fin 2048) :
    ownPart X W c i h.val (ix2 r q) = share X W c (above i (h.val + 2) c) i r q :=
  part_apply X W c _ (stepOff c h.val) (stepOff_inb c h.val) i (stepOff_eq c i h).1 (stepOff_eq c i h).2 r q

theorem firstPart_apply (c : Dev nD) (i : Fin 4) (r : Fin 256) (q : Fin 2048) :
    firstPart X W c i (ix2 r q) = share X W c (above i 1 c) i r q := by
  refine Eq.trans ?_ (part_apply X W c _ (firstOff c) (firstOff_inb c) i (firstOff_eq c i).1 (firstOff_eq c i).2 r q)
  unfold firstPart
  fin_cases i <;> rfl

/-! ## The messages and the finished sum -/

/-- Message `k` holds what the last `k + 1` devices contribute to the rows it is meant for. -/
theorem sent_apply (i : Fin 4) (r : Fin 256) (q : Fin 2048) : ∀ (k : ℕ) (_ : k < 15) (c : Dev nD),
    sent X W i k c (ix2 r q) = ∑ n ∈ Finset.range (k + 1), share X W (above i n c) (above i (k + 1) c) i r q
  | 0, _, c => by
    rw [Finset.sum_range_one]
    exact firstPart_apply X W c i r q
  | k + 1, hk, c => by
    refine (show sent X W i (k + 1) c (ix2 r q) = sent X W i k (upDev c i) (ix2 r q) + ownPart X W c i k (ix2 r q) from rfl).trans ?_
    rw [sent_apply i r q k (by omega) (upDev c i), ownPart_apply X W c i ⟨k, by omega⟩,
      Finset.sum_range_succ' (fun n => share X W (above i n c) (above i (k + 1 + 1) c) i r q) (k + 1)]
    rfl

/-- The finished sum of device `c` holds what every device contributes. -/
theorem total_apply (c : Dev nD) (i : Fin 4) (r : Fin 256) (q : Fin 2048) :
    addf (extf .f32 (sent X W i 14 (upDev c i)) bitsLt_bf16_f32) (ownPart X W c i 14) (ix2 r q)
      = ∑ d : Dev nD, share X W d c i r q := by
  refine (show _ = sent X W i 14 (upDev c i) (ix2 r q) + ownPart X W c i 14 (ix2 r q) from rfl).trans ?_
  rw [sent_apply X W i r q 14 (by omega) (upDev c i), ownPart_apply X W c i ⟨14, by omega⟩]
  show (∑ n ∈ Finset.range 15, share X W (above i (n + 1) c) (above i 16 c) i r q) + share X W (above i 0 c) (above i 16 c) i r q = _
  rw [above_round, ← Finset.sum_range_succ' (fun n => share X W (above i n c) c i r q), Finset.sum_range]
  exact Function.Bijective.sum_comp (above_bijective i c) fun d => share X W d c i r q

end Cert.Proof

end
-- ==== Proof.Ref.lean ====
/-
  What the reference computes over the extended reals: at every element the activation of one row of `x` against one
  column of `w`.
-/
module

public import proofs.«01_k».proof.Proof.Gen.ReferenceIdeal.Run
public import Idealize.ShloMosaic.Lib.StackMember
public import Idealize.ShloMosaic.Lib.ValueIdx

@[expose] public section

noncomputable section

namespace Cert.Proof

open Cert.ReferenceIdeal Cert.ReferenceIdeal.Gen

open Idealize.ShloMosaic Idealize.ShloMosaic.ValueIdx Idealize.SL.Sem

/-- The tanh form of gelu at one number, its constants the float words both programs print. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The whole product, -/
def whole (x : FVec Ideal S4096x4096 .bf16) (w : FVec Ideal S4096x8192 .bf16) : FVec Ideal S4096x8192 .f32 :=
  extf .f32 (truncf .bf16 (Host.dotGeneral dot_S4096x4096_S4096x8192_S4096x8192_1_0_0_1_n_n none x w) bitsLt_bf16_f32) bitsLt_bf16_f32

/-- and the reference's result. -/
def refOut (x : FVec Ideal S4096x4096 .bf16) (w : FVec Ideal S4096x8192 .bf16) : FVec Ideal S4096x8192 .f32 :=
  mulf (mulf (broadcastInDim S4096x8192 ![] bcast_S_S4096x8192 (constant S_ .f32 0x3F000000#32)) (whole x w))
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf (whole x w) (mulf (broadcastInDim S4096x8192 ![] bcast_S_S4096x8192 (constant S_ .f32 0x3D372713#32))
          (mulf (mulf (whole x w) (whole x w)) (whole x w)))))))

theorem whole_apply (x : FVec Ideal S4096x4096 .bf16) (w : FVec Ideal S4096x8192 .bf16) (r : Fin 4096) (q : Fin 8192) :
    whole x w (ix2 r q) = ∑ k : Fin 4096, x (ix2 r k) * w (ix2 k q) :=
  StackMember.dotGeneral_plain_apply none x w r q

theorem refOut_apply (x : FVec Ideal S4096x4096 .bf16) (w : FVec Ideal S4096x8192 .bf16) (j : S4096x8192.Idx) :
    refOut x w j = gelu (whole x w j) := rfl

/-- The reference ends with that result, its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.Proof

end
-- ==== Proof.Whole.lean ====
/-
  The equation: the parts of the result that the sixteen devices end with are the parts of the reference's result.
-/
module

public import proofs.«01_k».proof.Proof.Sums
public import proofs.«01_k».proof.Proof.Ref
public import Idealize.ShloMosaic.Lib.Layout

@[expose] public section

noncomputable section

namespace Cert.Proof

open Cert.KernelIdeal Cert.KernelIdeal.Gen

open Idealize.ShloMosaic Idealize.ShloMosaic.ValueIdx

/-- The kernel's activation is the same function: its cube is only bracketed the other way. -/
theorem geluOf_apply (y : FVec Ideal S256x2048 .f32) (j : S256x2048.Idx) : geluOf (F := Ideal) y j = gelu (y j) := by
  unfold gelu
  rw [← mul_assoc (Ideal.ofBits .f32 0x3D372713#32), ← mul_assoc (Ideal.ofBits .f32 0x3D372713#32)]
  rfl

/-- A sum over sixteen blocks of 256 is the sum over all 4096. -/
theorem sum_blocks (f : Fin 4096 → EReal) :
    ∑ d : Fin 16, ∑ k : Fin 256, f ⟨d.val * 256 + k.val, by omega⟩ = ∑ k, f k := by
  rw [← Fintype.sum_prod_type' fun (d : Fin 16) (k : Fin 256) => f ⟨d.val * 256 + k.val, by omega⟩]
  refine Fintype.sum_equiv (finProdFinEquiv (m := 16) (n := 256)) _ _ fun p => congrArg f (Fin.ext ?_)
  show p.1.val * 256 + p.2.val = p.2.val + 256 * p.1.val
  omega

variable (x : FVec Ideal ⟨2, ![4096, 4096]⟩ .bf16) (w : FVec Ideal ⟨2, ![4096, 8192]⟩ .bf16)

/-- The devices' parts of `x`, -/
def xParts (c : Dev nD) : S4096x256.Idx → Elt Ideal .bf16 := Layout.block ⟨2, ![4096, 256]⟩ ⟨2, ![4096, 4096]⟩ 1 16 c x

/-- and of `w`. -/
def wParts (c : Dev nD) : S256x8192.Idx → Elt Ideal .bf16 := Layout.block ⟨2, ![256, 8192]⟩ ⟨2, ![4096, 8192]⟩ 0 16 c w

theorem xParts_apply (d : Dev nD) (r : Fin 4096) (k : Fin 256) (p : Fin 4096) (hp : p.val = d.val * 256 + k.val) :
    xParts x d (ix2 r k) = x (ix2 r p) := by
  refine congrArg x ?_
  funext a; apply Fin.ext
  match a with
  | ⟨0, _⟩ => rfl
  | ⟨1, _⟩ => exact hp.symm

theorem wParts_apply (d : Dev nD) (k : Fin 256) (q : Fin 8192) (p : Fin 4096) (hp : p.val = d.val * 256 + k.val) :
    wParts w d (ix2 k q) = w (ix2 p q) := by
  refine congrArg w ?_
  funext a; apply Fin.ext
  match a with
  | ⟨0, _⟩ => exact hp.symm
  | ⟨1, _⟩ => rfl

/-- What all devices contribute to an element is the whole product there. -/
theorem shares_sum (c : Dev nD) (i : Fin 4) (r : Fin 256) (q : Fin 2048) :
    ∑ d : Dev nD, share (xParts x) (wParts w) d c i r q = whole x w (ix2 (rowOf c r) (colAt i q)) := by
  rw [whole_apply, ← sum_blocks]
  refine Finset.sum_congr rfl fun d _ => Finset.sum_congr rfl fun k _ => ?_
  have hd : d.val < 16 := d.isLt
  have hk := k.isLt
  rw [xParts_apply x d (rowOf c r) k ⟨d.val * 256 + k.val, by omega⟩ rfl,
    wParts_apply w d k (colAt i q) ⟨d.val * 256 + k.val, by omega⟩ rfl]

/-- An element of what device `c` computes on ring `i`. -/
theorem result_apply (c : Dev nD) (i : Fin 4) (r : Fin 256) (q : Fin 2048) :
    result (F := Ideal) (xParts x) (wParts w) c i (ix2 r q) = gelu (whole x w (ix2 (rowOf c r) (colAt i q))) := by
  unfold result
  rw [geluOf_apply, total_apply, shares_sum]

/-- Device `c` ends with block `c` of the reference's result. -/
theorem result_block (c : Dev nD) :
    outOf (result (F := Ideal) (xParts x) (wParts w) c)
      = (Layout.block ⟨2, ![256, 8192]⟩ ⟨2, ![4096, 8192]⟩ 0 16 c (refOut x w) : S256x8192.Idx → Elt Ideal .f32) := by
  funext j
  rw [Layout.block_apply, refOut_apply]
  refine (congrArg (result (xParts x) (wParts w) c (quarterOf j)) (eq_ix2 (n0 := 256) (n1 := 2048) (colOf j))).trans ?_
  refine (result_apply x w c (quarterOf j) (colOf j 0) (colOf j 1)).trans (congrArg (fun k => gelu (whole x w k)) ?_)
  have h0 : (j 0).val < 256 := (j 0).isLt
  funext a; apply Fin.ext
  match a with
  | ⟨0, _⟩ => show 256 * c.val + (j 0).val % 256 = c.val * 256 + (j 0).val; omega
  | ⟨1, _⟩ => show (j 1).val / 2048 * 2048 + (j 1).val % 2048 = (j 1).val; omega

end Cert.Proof

end
-- ==== Proof.Final.lean ====
/-
  The claims: both frames of the kernel, the frame of the reference, and that the two compute the same function.
-/
module

public import proofs.«01_k».proof.Proof.Run
public import proofs.«01_k».proof.Proof.Gen.Kernel
public import proofs.«01_k».proof.Proof.Whole
public import Idealize.ShloMosaic.Lib.Quiescent

@[expose] public section

noncomputable section

namespace Cert.Proof

open Cert.KernelIdeal Cert.KernelIdeal.Gen

open Idealize.ShloMosaic Idealize.ShloMosaic.TcCoe
open Idealize.SL.Sem

section Arrays

variable {F : FTy → Type} [FloatOps F]
variable (m : (ℓ : Loc nD τ sig) → Buf (Elt F) ℓ) (ρ : Dev nD → PrngReg)

/-- A device's part of `x` is what its argument array holds at the start, -/
theorem xIn_eq (c : Dev nD) : xIn m ρ c = m ((c : Thread nD τ).loc main_arg0) :=
  Memref.read_access_unit_zero (Elt F) main_arg0 (funext fun a => by fin_cases a <;> decide) (fun a => by fin_cases a <;> decide) _

/-- and so is its part of `w`. -/
theorem wIn_eq (c : Dev nD) : wIn m ρ c = m ((c : Thread nD τ).loc main_arg1) :=
  Memref.read_access_unit_zero (Elt F) main_arg1 (funext fun a => by fin_cases a <;> decide) (fun a => by fin_cases a <;> decide) _

/-- Its result array ends holding what the body wrote. -/
theorem finalA_y (c : Dev nD) : finalA m ρ c (2 : Fin 3) = yOut m ρ c := by
  refine Eq.trans ?_ (show (win0_2.blk (0 : Fin 1)).view.read (Elt F) (finalA m ρ c (2 : Fin 3)) = yOut m ρ c from ?_)
  · exact (Memref.read_access_unit_zero (Elt F) main_v1 (funext fun a => by fin_cases a <;> decide)
      (fun a => by fin_cases a <;> decide) _).symm
  · unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _

end Arrays

/-- Over any float values the kernel ends, its arguments unchanged and every semaphore at zero; -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main (F := F) m ρ)

/-- so over the extended reals, -/
theorem frame_ideal : Cert.quiescent_KernelIdeal := fun m ρ _ => frame_any (F := Ideal) m ρ

/-- The kernel as printed has the same bodies, -/
theorem bodies_eq : Cert.Kernel.defs₀ (F := Bits) = Cert.KernelIdeal.defs₀ (F := Bits) := by
  unfold Cert.Kernel.defs₀ Cert.KernelIdeal.defs₀
  refine congrArg _ ?_
  funext l a
  match l, a with
  | 0, (_, _) => rfl

/-- and the same pipeline around them; -/
theorem defs_eq : Cert.Kernel.defs (F := Bits) = Cert.KernelIdeal.defs (F := Bits) :=
  congrArg (Pipeline.defs (Cert.KernelIdeal.pcfgs (F := Bits))) bodies_eq

/-- so it ends as well, its arguments unchanged and every semaphore at zero. -/
theorem frame_kernel : Cert.quiescent_Kernel := by
  intro m ρ _
  rw [defs_eq]
  exact frame_any (F := Bits) m ρ

/-- The reference ends, its arguments unchanged; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩) (ref_run m ρ)

/-- Device `c` of the kernel ends with block `c` of the reference's result. -/
theorem same_function : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_,
    (θ_run Cert.ReferenceIdeal.defs _ _).mono (fun _ h => h 0) (ref_run m' ρ')⟩
  refine (θ_run defs _ _).mono (fun _ h c => ⟨(h.1 c (2 : Fin 3)).trans ((finalA_y m ρ c).trans ?_),
    (h.1 c (0 : Fin 3)).trans (finalA_x m ρ c), (h.1 c (1 : Fin 3)).trans (finalA_w m ρ c)⟩) (run_main (F := Ideal) m ρ)
  have hx : xIn m ρ = xParts (m' (((0 : Dev Cert.ReferenceIdeal.nD).tc : Thread Cert.ReferenceIdeal.nD Cert.ReferenceIdeal.τ).loc Cert.ReferenceIdeal.main_arg0)) :=
    funext fun d => (xIn_eq m ρ d).trans (hagree d).1
  have hw : wIn m ρ = wParts (m' (((0 : Dev Cert.ReferenceIdeal.nD).tc : Thread Cert.ReferenceIdeal.nD Cert.ReferenceIdeal.τ).loc Cert.ReferenceIdeal.main_arg1)) :=
    funext fun d => (wIn_eq m ρ d).trans (hagree d).2
  unfold yOut
  rw [hx, hw]
  exact result_block _ _ c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_ref, trivial, same_function⟩

end Cert.Proof

end
